-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_Neighbourhood (m : (ℓ : Loc Cert.Neighbourhood.nD Cert.Neighbourhood.τ Cert.Neighbourhood.sig) → Buf (Elt Bits) ℓ) : Prop :=
  True

def Pre_NeighbourhoodIdeal (m : (ℓ : Loc Cert.NeighbourhoodIdeal.nD Cert.NeighbourhoodIdeal.τ Cert.NeighbourhoodIdeal.sig) → Buf (Elt Ideal) ℓ) : Prop :=
  True

def Pre_NeighbourhoodReferenceIdeal (m : (ℓ : Loc Cert.NeighbourhoodReferenceIdeal.nD Cert.NeighbourhoodReferenceIdeal.τ Cert.NeighbourhoodReferenceIdeal.sig) → Buf (Elt Ideal) ℓ) : Prop :=
  True

def Pre_Lower (m : (ℓ : Loc Cert.Lower.nD Cert.Lower.τ Cert.Lower.sig) → Buf (Elt Bits) ℓ) : Prop :=
  True

def Pre_LowerIdeal (m : (ℓ : Loc Cert.LowerIdeal.nD Cert.LowerIdeal.τ Cert.LowerIdeal.sig) → Buf (Elt Ideal) ℓ) : Prop :=
  True

def Pre_LowerReferenceIdeal (m : (ℓ : Loc Cert.LowerReferenceIdeal.nD Cert.LowerReferenceIdeal.τ Cert.LowerReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1))
      ∧ r.2.sem = fun _ => 0)

def quiescent_Neighbourhood [hNeighbourhood : Cert.Neighbourhood.Facts] : Prop :=
  ∀ (m : (ℓ : Loc Cert.Neighbourhood.nD Cert.Neighbourhood.τ Cert.Neighbourhood.sig) → Buf (Elt Bits) ℓ) (g : Dev Cert.Neighbourhood.nD → PrngReg), Pre_Neighbourhood m →
    θ_run (Cert.Neighbourhood.defs (F := Bits)) (onTc (τ := Cert.Neighbourhood.τ) (Cert.Neighbourhood.main (F := Bits))) ⟨m, fun _ => 0, g⟩ (fun r => (∀ c : Dev Cert.Neighbourhood.nD,
      r.2.mem ((c.tc : Thread Cert.Neighbourhood.nD Cert.Neighbourhood.τ).loc Cert.Neighbourhood.main_arg0) = m ((c.tc : Thread Cert.Neighbourhood.nD Cert.Neighbourhood.τ).loc Cert.Neighbourhood.main_arg0)
      ∧ r.2.mem ((c.tc : Thread Cert.Neighbourhood.nD Cert.Neighbourhood.τ).loc Cert.Neighbourhood.main_arg1) = m ((c.tc : Thread Cert.Neighbourhood.nD Cert.Neighbourhood.τ).loc Cert.Neighbourhood.main_arg1))
      ∧ r.2.sem = fun _ => 0)

def quiescent_NeighbourhoodIdeal [hNeighbourhoodIdeal : Cert.NeighbourhoodIdeal.Facts] : Prop :=
  ∀ (m : (ℓ : Loc Cert.NeighbourhoodIdeal.nD Cert.NeighbourhoodIdeal.τ Cert.NeighbourhoodIdeal.sig) → Buf (Elt Ideal) ℓ) (g : Dev Cert.NeighbourhoodIdeal.nD → PrngReg), Pre_NeighbourhoodIdeal m →
    θ_run (Cert.NeighbourhoodIdeal.defs (F := Ideal)) (onTc (τ := Cert.NeighbourhoodIdeal.τ) (Cert.NeighbourhoodIdeal.main (F := Ideal))) ⟨m, fun _ => 0, g⟩ (fun r => (∀ c : Dev Cert.NeighbourhoodIdeal.nD,
      r.2.mem ((c.tc : Thread Cert.NeighbourhoodIdeal.nD Cert.NeighbourhoodIdeal.τ).loc Cert.NeighbourhoodIdeal.main_arg0) = m ((c.tc : Thread Cert.NeighbourhoodIdeal.nD Cert.NeighbourhoodIdeal.τ).loc Cert.NeighbourhoodIdeal.main_arg0)
      ∧ r.2.mem ((c.tc : Thread Cert.NeighbourhoodIdeal.nD Cert.NeighbourhoodIdeal.τ).loc Cert.NeighbourhoodIdeal.main_arg1) = m ((c.tc : Thread Cert.NeighbourhoodIdeal.nD Cert.NeighbourhoodIdeal.τ).loc Cert.NeighbourhoodIdeal.main_arg1))
      ∧ r.2.sem = fun _ => 0)

def quiescent_NeighbourhoodReferenceIdeal [hNeighbourhoodReferenceIdeal : Cert.NeighbourhoodReferenceIdeal.Facts] : Prop :=
  ∀ (m : (ℓ : Loc Cert.NeighbourhoodReferenceIdeal.nD Cert.NeighbourhoodReferenceIdeal.τ Cert.NeighbourhoodReferenceIdeal.sig) → Buf (Elt Ideal) ℓ) (g : Dev Cert.NeighbourhoodReferenceIdeal.nD → PrngReg), Pre_NeighbourhoodReferenceIdeal m →
    θ_run (Cert.NeighbourhoodReferenceIdeal.defs (F := Ideal)) (onTc (τ := Cert.NeighbourhoodReferenceIdeal.τ) (Cert.NeighbourhoodReferenceIdeal.main (F := Ideal))) ⟨m, fun _ => 0, g⟩ (fun r => (∀ c : Dev Cert.NeighbourhoodReferenceIdeal.nD,
      r.2.mem ((c.tc : Thread Cert.NeighbourhoodReferenceIdeal.nD Cert.NeighbourhoodReferenceIdeal.τ).loc Cert.NeighbourhoodReferenceIdeal.main_arg0) = m ((c.tc : Thread Cert.NeighbourhoodReferenceIdeal.nD Cert.NeighbourhoodReferenceIdeal.τ).loc Cert.NeighbourhoodReferenceIdeal.main_arg0)
      ∧ r.2.mem ((c.tc : Thread Cert.NeighbourhoodReferenceIdeal.nD Cert.NeighbourhoodReferenceIdeal.τ).loc Cert.NeighbourhoodReferenceIdeal.main_arg1) = m ((c.tc : Thread Cert.NeighbourhoodReferenceIdeal.nD Cert.NeighbourhoodReferenceIdeal.τ).loc Cert.NeighbourhoodReferenceIdeal.main_arg1))
      ∧ r.2.sem = fun _ => 0)

def quiescent_Lower [hLower : Cert.Lower.Facts] : Prop :=
  ∀ (m : (ℓ : Loc Cert.Lower.nD Cert.Lower.τ Cert.Lower.sig) → Buf (Elt Bits) ℓ) (g : Dev Cert.Lower.nD → PrngReg), Pre_Lower m →
    θ_run (Cert.Lower.defs (F := Bits)) (onTc (τ := Cert.Lower.τ) (Cert.Lower.main (F := Bits))) ⟨m, fun _ => 0, g⟩ (fun r => (∀ c : Dev Cert.Lower.nD,
      r.2.mem ((c.tc : Thread Cert.Lower.nD Cert.Lower.τ).loc Cert.Lower.main_arg0) = m ((c.tc : Thread Cert.Lower.nD Cert.Lower.τ).loc Cert.Lower.main_arg0)
      ∧ r.2.mem ((c.tc : Thread Cert.Lower.nD Cert.Lower.τ).loc Cert.Lower.main_arg1) = m ((c.tc : Thread Cert.Lower.nD Cert.Lower.τ).loc Cert.Lower.main_arg1)
      ∧ r.2.mem ((c.tc : Thread Cert.Lower.nD Cert.Lower.τ).loc Cert.Lower.main_arg2) = m ((c.tc : Thread Cert.Lower.nD Cert.Lower.τ).loc Cert.Lower.main_arg2)
      ∧ r.2.mem ((c.tc : Thread Cert.Lower.nD Cert.Lower.τ).loc Cert.Lower.main_arg3) = m ((c.tc : Thread Cert.Lower.nD Cert.Lower.τ).loc Cert.Lower.main_arg3)
      ∧ r.2.mem ((c.tc : Thread Cert.Lower.nD Cert.Lower.τ).loc Cert.Lower.main_arg4) = m ((c.tc : Thread Cert.Lower.nD Cert.Lower.τ).loc Cert.Lower.main_arg4))
      ∧ r.2.sem = fun _ => 0)

def quiescent_LowerIdeal [hLowerIdeal : Cert.LowerIdeal.Facts] : Prop :=
  ∀ (m : (ℓ : Loc Cert.LowerIdeal.nD Cert.LowerIdeal.τ Cert.LowerIdeal.sig) → Buf (Elt Ideal) ℓ) (g : Dev Cert.LowerIdeal.nD → PrngReg), Pre_LowerIdeal m →
    θ_run (Cert.LowerIdeal.defs (F := Ideal)) (onTc (τ := Cert.LowerIdeal.τ) (Cert.LowerIdeal.main (F := Ideal))) ⟨m, fun _ => 0, g⟩ (fun r => (∀ c : Dev Cert.LowerIdeal.nD,
      r.2.mem ((c.tc : Thread Cert.LowerIdeal.nD Cert.LowerIdeal.τ).loc Cert.LowerIdeal.main_arg0) = m ((c.tc : Thread Cert.LowerIdeal.nD Cert.LowerIdeal.τ).loc Cert.LowerIdeal.main_arg0)
      ∧ r.2.mem ((c.tc : Thread Cert.LowerIdeal.nD Cert.LowerIdeal.τ).loc Cert.LowerIdeal.main_arg1) = m ((c.tc : Thread Cert.LowerIdeal.nD Cert.LowerIdeal.τ).loc Cert.LowerIdeal.main_arg1)
      ∧ r.2.mem ((c.tc : Thread Cert.LowerIdeal.nD Cert.LowerIdeal.τ).loc Cert.LowerIdeal.main_arg2) = m ((c.tc : Thread Cert.LowerIdeal.nD Cert.LowerIdeal.τ).loc Cert.LowerIdeal.main_arg2)
      ∧ r.2.mem ((c.tc : Thread Cert.LowerIdeal.nD Cert.LowerIdeal.τ).loc Cert.LowerIdeal.main_arg3) = m ((c.tc : Thread Cert.LowerIdeal.nD Cert.LowerIdeal.τ).loc Cert.LowerIdeal.main_arg3)
      ∧ r.2.mem ((c.tc : Thread Cert.LowerIdeal.nD Cert.LowerIdeal.τ).loc Cert.LowerIdeal.main_arg4) = m ((c.tc : Thread Cert.LowerIdeal.nD Cert.LowerIdeal.τ).loc Cert.LowerIdeal.main_arg4))
      ∧ r.2.sem = fun _ => 0)

def quiescent_LowerReferenceIdeal [hLowerReferenceIdeal : Cert.LowerReferenceIdeal.Facts] : Prop :=
  ∀ (m : (ℓ : Loc Cert.LowerReferenceIdeal.nD Cert.LowerReferenceIdeal.τ Cert.LowerReferenceIdeal.sig) → Buf (Elt Ideal) ℓ) (g : Dev Cert.LowerReferenceIdeal.nD → PrngReg), Pre_LowerReferenceIdeal m →
    θ_run (Cert.LowerReferenceIdeal.defs (F := Ideal)) (onTc (τ := Cert.LowerReferenceIdeal.τ) (Cert.LowerReferenceIdeal.main (F := Ideal))) ⟨m, fun _ => 0, g⟩ (fun r => (∀ c : Dev Cert.LowerReferenceIdeal.nD,
      r.2.mem ((c.tc : Thread Cert.LowerReferenceIdeal.nD Cert.LowerReferenceIdeal.τ).loc Cert.LowerReferenceIdeal.main_arg0) = m ((c.tc : Thread Cert.LowerReferenceIdeal.nD Cert.LowerReferenceIdeal.τ).loc Cert.LowerReferenceIdeal.main_arg0)
      ∧ r.2.mem ((c.tc : Thread Cert.LowerReferenceIdeal.nD Cert.LowerReferenceIdeal.τ).loc Cert.LowerReferenceIdeal.main_arg1) = m ((c.tc : Thread Cert.LowerReferenceIdeal.nD Cert.LowerReferenceIdeal.τ).loc Cert.LowerReferenceIdeal.main_arg1)
      ∧ r.2.mem ((c.tc : Thread Cert.LowerReferenceIdeal.nD Cert.LowerReferenceIdeal.τ).loc Cert.LowerReferenceIdeal.main_arg2) = m ((c.tc : Thread Cert.LowerReferenceIdeal.nD Cert.LowerReferenceIdeal.τ).loc Cert.LowerReferenceIdeal.main_arg2)
      ∧ r.2.mem ((c.tc : Thread Cert.LowerReferenceIdeal.nD Cert.LowerReferenceIdeal.τ).loc Cert.LowerReferenceIdeal.main_arg3) = m ((c.tc : Thread Cert.LowerReferenceIdeal.nD Cert.LowerReferenceIdeal.τ).loc Cert.LowerReferenceIdeal.main_arg3)
      ∧ r.2.mem ((c.tc : Thread Cert.LowerReferenceIdeal.nD Cert.LowerReferenceIdeal.τ).loc Cert.LowerReferenceIdeal.main_arg4) = m ((c.tc : Thread Cert.LowerReferenceIdeal.nD Cert.LowerReferenceIdeal.τ).loc Cert.LowerReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v83_0)) (v1 : (c : Dev Cert.KernelIdeal.nD) → Buf (Elt Ideal) ((c.tc : Thread Cert.KernelIdeal.nD Cert.KernelIdeal.τ).loc Cert.KernelIdeal.main_v83_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83_0) = v0 c
          ∧ r.2.mem ((c.tc : Thread Cert.KernelIdeal.nD Cert.KernelIdeal.τ).loc Cert.KernelIdeal.main_v83_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)) →
    ∃ (v0 : (c : Dev Cert.ProjectionIdeal.nD) → Buf (Elt Ideal) ((c.tc : Thread Cert.ProjectionIdeal.nD Cert.ProjectionIdeal.τ).loc Cert.ProjectionIdeal.main_v44)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v44) = v0 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v145) = v0 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1))

def preserves_Neighbourhood_NeighbourhoodIdeal : Prop :=
  True

def algebraic_NeighbourhoodIdeal_NeighbourhoodReferenceIdeal [hNeighbourhoodIdeal : Cert.NeighbourhoodIdeal.Facts] [hNeighbourhoodReferenceIdeal : Cert.NeighbourhoodReferenceIdeal.Facts] : Prop :=
  ∀ (m : (ℓ : Loc Cert.NeighbourhoodIdeal.nD Cert.NeighbourhoodIdeal.τ Cert.NeighbourhoodIdeal.sig) → Buf (Elt Ideal) ℓ) (g : Dev Cert.NeighbourhoodIdeal.nD → PrngReg)
    (m' : (ℓ : Loc Cert.NeighbourhoodReferenceIdeal.nD Cert.NeighbourhoodReferenceIdeal.τ Cert.NeighbourhoodReferenceIdeal.sig) → Buf (Elt Ideal) ℓ) (g' : Dev Cert.NeighbourhoodReferenceIdeal.nD → PrngReg), Pre_NeighbourhoodIdeal m →
    (∀ c : Dev Cert.NeighbourhoodIdeal.nD,
      m' ((c.tc : Thread Cert.NeighbourhoodReferenceIdeal.nD Cert.NeighbourhoodReferenceIdeal.τ).loc Cert.NeighbourhoodReferenceIdeal.main_arg0) = m ((c.tc : Thread Cert.NeighbourhoodIdeal.nD Cert.NeighbourhoodIdeal.τ).loc Cert.NeighbourhoodIdeal.main_arg0)
      ∧ m' ((c.tc : Thread Cert.NeighbourhoodReferenceIdeal.nD Cert.NeighbourhoodReferenceIdeal.τ).loc Cert.NeighbourhoodReferenceIdeal.main_arg1) = m ((c.tc : Thread Cert.NeighbourhoodIdeal.nD Cert.NeighbourhoodIdeal.τ).loc Cert.NeighbourhoodIdeal.main_arg1)) →
    ∃ (v0 : (c : Dev Cert.NeighbourhoodIdeal.nD) → Buf (Elt Ideal) ((c.tc : Thread Cert.NeighbourhoodIdeal.nD Cert.NeighbourhoodIdeal.τ).loc Cert.NeighbourhoodIdeal.main_v1)),
      θ_run (Cert.NeighbourhoodIdeal.defs (F := Ideal)) (onTc (τ := Cert.NeighbourhoodIdeal.τ) (Cert.NeighbourhoodIdeal.main (F := Ideal))) ⟨m, fun _ => 0, g⟩ (fun r => ∀ c : Dev Cert.NeighbourhoodIdeal.nD,
          r.2.mem ((c.tc : Thread Cert.NeighbourhoodIdeal.nD Cert.NeighbourhoodIdeal.τ).loc Cert.NeighbourhoodIdeal.main_v1) = v0 c
          ∧ r.2.mem ((c.tc : Thread Cert.NeighbourhoodIdeal.nD Cert.NeighbourhoodIdeal.τ).loc Cert.NeighbourhoodIdeal.main_arg0) = m ((c.tc : Thread Cert.NeighbourhoodIdeal.nD Cert.NeighbourhoodIdeal.τ).loc Cert.NeighbourhoodIdeal.main_arg0)
          ∧ r.2.mem ((c.tc : Thread Cert.NeighbourhoodIdeal.nD Cert.NeighbourhoodIdeal.τ).loc Cert.NeighbourhoodIdeal.main_arg1) = m ((c.tc : Thread Cert.NeighbourhoodIdeal.nD Cert.NeighbourhoodIdeal.τ).loc Cert.NeighbourhoodIdeal.main_arg1))
      ∧ θ_run (Cert.NeighbourhoodReferenceIdeal.defs (F := Ideal)) (onTc (τ := Cert.NeighbourhoodReferenceIdeal.τ) (Cert.NeighbourhoodReferenceIdeal.main (F := Ideal))) ⟨m', fun _ => 0, g'⟩ (fun r => ∀ c : Dev Cert.NeighbourhoodReferenceIdeal.nD,
          r.2.mem ((c.tc : Thread Cert.NeighbourhoodReferenceIdeal.nD Cert.NeighbourhoodReferenceIdeal.τ).loc Cert.NeighbourhoodReferenceIdeal.main_v9) = v0 c
          ∧ r.2.mem ((c.tc : Thread Cert.NeighbourhoodReferenceIdeal.nD Cert.NeighbourhoodReferenceIdeal.τ).loc Cert.NeighbourhoodReferenceIdeal.main_arg0) = m' ((c.tc : Thread Cert.NeighbourhoodReferenceIdeal.nD Cert.NeighbourhoodReferenceIdeal.τ).loc Cert.NeighbourhoodReferenceIdeal.main_arg0)
          ∧ r.2.mem ((c.tc : Thread Cert.NeighbourhoodReferenceIdeal.nD Cert.NeighbourhoodReferenceIdeal.τ).loc Cert.NeighbourhoodReferenceIdeal.main_arg1) = m' ((c.tc : Thread Cert.NeighbourhoodReferenceIdeal.nD Cert.NeighbourhoodReferenceIdeal.τ).loc Cert.NeighbourhoodReferenceIdeal.main_arg1))

def preserves_Lower_LowerIdeal : Prop :=
  True

def algebraic_LowerIdeal_LowerReferenceIdeal [hLowerIdeal : Cert.LowerIdeal.Facts] [hLowerReferenceIdeal : Cert.LowerReferenceIdeal.Facts] : Prop :=
  ∀ (m : (ℓ : Loc Cert.LowerIdeal.nD Cert.LowerIdeal.τ Cert.LowerIdeal.sig) → Buf (Elt Ideal) ℓ) (g : Dev Cert.LowerIdeal.nD → PrngReg)
    (m' : (ℓ : Loc Cert.LowerReferenceIdeal.nD Cert.LowerReferenceIdeal.τ Cert.LowerReferenceIdeal.sig) → Buf (Elt Ideal) ℓ) (g' : Dev Cert.LowerReferenceIdeal.nD → PrngReg), Pre_LowerIdeal m →
    (∀ c : Dev Cert.LowerIdeal.nD,
      m' ((c.tc : Thread Cert.LowerReferenceIdeal.nD Cert.LowerReferenceIdeal.τ).loc Cert.LowerReferenceIdeal.main_arg0) = m ((c.tc : Thread Cert.LowerIdeal.nD Cert.LowerIdeal.τ).loc Cert.LowerIdeal.main_arg0)
      ∧ m' ((c.tc : Thread Cert.LowerReferenceIdeal.nD Cert.LowerReferenceIdeal.τ).loc Cert.LowerReferenceIdeal.main_arg1) = m ((c.tc : Thread Cert.LowerIdeal.nD Cert.LowerIdeal.τ).loc Cert.LowerIdeal.main_arg1)
      ∧ m' ((c.tc : Thread Cert.LowerReferenceIdeal.nD Cert.LowerReferenceIdeal.τ).loc Cert.LowerReferenceIdeal.main_arg2) = m ((c.tc : Thread Cert.LowerIdeal.nD Cert.LowerIdeal.τ).loc Cert.LowerIdeal.main_arg2)
      ∧ m' ((c.tc : Thread Cert.LowerReferenceIdeal.nD Cert.LowerReferenceIdeal.τ).loc Cert.LowerReferenceIdeal.main_arg3) = m ((c.tc : Thread Cert.LowerIdeal.nD Cert.LowerIdeal.τ).loc Cert.LowerIdeal.main_arg3)
      ∧ m' ((c.tc : Thread Cert.LowerReferenceIdeal.nD Cert.LowerReferenceIdeal.τ).loc Cert.LowerReferenceIdeal.main_arg4) = m ((c.tc : Thread Cert.LowerIdeal.nD Cert.LowerIdeal.τ).loc Cert.LowerIdeal.main_arg4)) →
    ∃ (v0 : (c : Dev Cert.LowerIdeal.nD) → Buf (Elt Ideal) ((c.tc : Thread Cert.LowerIdeal.nD Cert.LowerIdeal.τ).loc Cert.LowerIdeal.main_v41)),
      θ_run (Cert.LowerIdeal.defs (F := Ideal)) (onTc (τ := Cert.LowerIdeal.τ) (Cert.LowerIdeal.main (F := Ideal))) ⟨m, fun _ => 0, g⟩ (fun r => ∀ c : Dev Cert.LowerIdeal.nD,
          r.2.mem ((c.tc : Thread Cert.LowerIdeal.nD Cert.LowerIdeal.τ).loc Cert.LowerIdeal.main_v41) = v0 c
          ∧ r.2.mem ((c.tc : Thread Cert.LowerIdeal.nD Cert.LowerIdeal.τ).loc Cert.LowerIdeal.main_arg0) = m ((c.tc : Thread Cert.LowerIdeal.nD Cert.LowerIdeal.τ).loc Cert.LowerIdeal.main_arg0)
          ∧ r.2.mem ((c.tc : Thread Cert.LowerIdeal.nD Cert.LowerIdeal.τ).loc Cert.LowerIdeal.main_arg1) = m ((c.tc : Thread Cert.LowerIdeal.nD Cert.LowerIdeal.τ).loc Cert.LowerIdeal.main_arg1)
          ∧ r.2.mem ((c.tc : Thread Cert.LowerIdeal.nD Cert.LowerIdeal.τ).loc Cert.LowerIdeal.main_arg2) = m ((c.tc : Thread Cert.LowerIdeal.nD Cert.LowerIdeal.τ).loc Cert.LowerIdeal.main_arg2)
          ∧ r.2.mem ((c.tc : Thread Cert.LowerIdeal.nD Cert.LowerIdeal.τ).loc Cert.LowerIdeal.main_arg3) = m ((c.tc : Thread Cert.LowerIdeal.nD Cert.LowerIdeal.τ).loc Cert.LowerIdeal.main_arg3)
          ∧ r.2.mem ((c.tc : Thread Cert.LowerIdeal.nD Cert.LowerIdeal.τ).loc Cert.LowerIdeal.main_arg4) = m ((c.tc : Thread Cert.LowerIdeal.nD Cert.LowerIdeal.τ).loc Cert.LowerIdeal.main_arg4))
      ∧ θ_run (Cert.LowerReferenceIdeal.defs (F := Ideal)) (onTc (τ := Cert.LowerReferenceIdeal.τ) (Cert.LowerReferenceIdeal.main (F := Ideal))) ⟨m', fun _ => 0, g'⟩ (fun r => ∀ c : Dev Cert.LowerReferenceIdeal.nD,
          r.2.mem ((c.tc : Thread Cert.LowerReferenceIdeal.nD Cert.LowerReferenceIdeal.τ).loc Cert.LowerReferenceIdeal.main_v66) = v0 c
          ∧ r.2.mem ((c.tc : Thread Cert.LowerReferenceIdeal.nD Cert.LowerReferenceIdeal.τ).loc Cert.LowerReferenceIdeal.main_arg0) = m' ((c.tc : Thread Cert.LowerReferenceIdeal.nD Cert.LowerReferenceIdeal.τ).loc Cert.LowerReferenceIdeal.main_arg0)
          ∧ r.2.mem ((c.tc : Thread Cert.LowerReferenceIdeal.nD Cert.LowerReferenceIdeal.τ).loc Cert.LowerReferenceIdeal.main_arg1) = m' ((c.tc : Thread Cert.LowerReferenceIdeal.nD Cert.LowerReferenceIdeal.τ).loc Cert.LowerReferenceIdeal.main_arg1)
          ∧ r.2.mem ((c.tc : Thread Cert.LowerReferenceIdeal.nD Cert.LowerReferenceIdeal.τ).loc Cert.LowerReferenceIdeal.main_arg2) = m' ((c.tc : Thread Cert.LowerReferenceIdeal.nD Cert.LowerReferenceIdeal.τ).loc Cert.LowerReferenceIdeal.main_arg2)
          ∧ r.2.mem ((c.tc : Thread Cert.LowerReferenceIdeal.nD Cert.LowerReferenceIdeal.τ).loc Cert.LowerReferenceIdeal.main_arg3) = m' ((c.tc : Thread Cert.LowerReferenceIdeal.nD Cert.LowerReferenceIdeal.τ).loc Cert.LowerReferenceIdeal.main_arg3)
          ∧ r.2.mem ((c.tc : Thread Cert.LowerReferenceIdeal.nD Cert.LowerReferenceIdeal.τ).loc Cert.LowerReferenceIdeal.main_arg4) = m' ((c.tc : Thread Cert.LowerReferenceIdeal.nD Cert.LowerReferenceIdeal.τ).loc Cert.LowerReferenceIdeal.main_arg4))

def Claim : Prop :=
  ∃ (hKernel : Cert.Kernel.Facts) (hKernelIdeal : Cert.KernelIdeal.Facts) (hReferenceIdeal : Cert.ReferenceIdeal.Facts) (hProjection : Cert.Projection.Facts) (hProjectionIdeal : Cert.ProjectionIdeal.Facts) (hProjectionReferenceIdeal : Cert.ProjectionReferenceIdeal.Facts) (hNeighbourhood : Cert.Neighbourhood.Facts) (hNeighbourhoodIdeal : Cert.NeighbourhoodIdeal.Facts) (hNeighbourhoodReferenceIdeal : Cert.NeighbourhoodReferenceIdeal.Facts) (hLower : Cert.Lower.Facts) (hLowerIdeal : Cert.LowerIdeal.Facts) (hLowerReferenceIdeal : Cert.LowerReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_Neighbourhood (hNeighbourhood := hNeighbourhood)
    ∧ quiescent_NeighbourhoodIdeal (hNeighbourhoodIdeal := hNeighbourhoodIdeal)
    ∧ quiescent_NeighbourhoodReferenceIdeal (hNeighbourhoodReferenceIdeal := hNeighbourhoodReferenceIdeal)
    ∧ quiescent_Lower (hLower := hLower)
    ∧ quiescent_LowerIdeal (hLowerIdeal := hLowerIdeal)
    ∧ quiescent_LowerReferenceIdeal (hLowerReferenceIdeal := hLowerReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Projection_ProjectionIdeal
    ∧ algebraic_ProjectionIdeal_ProjectionReferenceIdeal (hProjectionIdeal := hProjectionIdeal) (hProjectionReferenceIdeal := hProjectionReferenceIdeal)
    ∧ preserves_Neighbourhood_NeighbourhoodIdeal
    ∧ algebraic_NeighbourhoodIdeal_NeighbourhoodReferenceIdeal (hNeighbourhoodIdeal := hNeighbourhoodIdeal) (hNeighbourhoodReferenceIdeal := hNeighbourhoodReferenceIdeal)
    ∧ preserves_Lower_LowerIdeal
    ∧ algebraic_LowerIdeal_LowerReferenceIdeal (hLowerIdeal := hLowerIdeal) (hLowerReferenceIdeal := hLowerReferenceIdeal)
-- ==== Pre_finite.lean ====
abbrev S4x4352x6144 : Shape := ⟨3, ![4, 4352, 6144]⟩
abbrev S2x4 : Shape := ⟨2, ![2, 4]⟩
abbrev S4x4352x4096 : Shape := ⟨3, ![4, 4352, 4096]⟩
abbrev S_ : Shape := ⟨0, ![]⟩

class Facts : Prop where
  slices_S4x4352x6144_S4x4352x4096_0_0_0 : S4x4352x6144.Slices ![0, 0, 0] S4x4352x4096
  bcast_S_S4x4352x4096 : S_.BroadcastsInDim S4x4352x4096 (![] : Fin 0 → Fin S4x4352x4096.rank)

variable [Facts]

def fn {F : FTy → Type} [FloatOps F] (main_arg0 : FVec F S4x4352x6144 .bf16) (main_arg1 : FVec F S2x4 .f32) : IVec S4x4352x4096 1 :=
  let main_v0 : FVec F S4x4352x4096 .bf16 := (extractStridedSlice S4x4352x4096 ![0, 0, 0] · slices_S4x4352x6144_S4x4352x4096_0_0_0) main_arg0
  let main_v1 : FVec F S4x4352x4096 .bf16 := Host.absf main_v0
  let main_cst : FVec F S_ .bf16 := constant S_ .bf16 0x7F80#16
  let main_v2 : FVec F S4x4352x4096 .bf16 := broadcastInDim S4x4352x4096 ![] bcast_S_S4x4352x4096 main_cst
  let main_v3 : IVec S4x4352x4096 1 := cmpf .olt main_v1 main_v2
  main_v3
-- ==== Kernel.lean ====
abbrev S4x4352x6144 : Shape := ⟨3, ![4, 4352, 6144]⟩
abbrev S2x4 : Shape := ⟨2, ![2, 4]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S2x4x1x1 : Shape := ⟨4, ![2, 4, 1, 1]⟩
abbrev S1x1x256x256 : Shape := ⟨4, ![1, 1, 256, 256]⟩
abbrev S2x4x256x256 : Shape := ⟨4, ![2, 4, 256, 256]⟩
abbrev S1x4x256x256 : Shape := ⟨4, ![1, 4, 256, 256]⟩
abbrev S4x256x256 : Shape := ⟨3, ![4, 256, 256]⟩
abbrev S2x4x1 : Shape := ⟨3, ![2, 4, 1]⟩
abbrev S1x4x1 : Shape := ⟨3, ![1, 4, 1]⟩
abbrev S4x1 : Shape := ⟨2, ![4, 1]⟩
abbrev S4x256 : Shape := ⟨2, ![4, 256]⟩
abbrev S1x4x256 : Shape := ⟨3, ![1, 4, 256]⟩
abbrev S2x4x256 : Shape := ⟨3, ![2, 4, 256]⟩
abbrev S8 : Shape := ⟨1, ![8]⟩
abbrev S2x4x256x1 : Shape := ⟨4, ![2, 4, 256, 1]⟩
abbrev S4x4352x2048 : Shape := ⟨3, ![4, 4352, 2048]⟩
abbrev S1x256x1024 : Shape := ⟨3, ![1, 256, 1024]⟩
abbrev S1x256x2048 : Shape := ⟨3, ![1, 256, 2048]⟩
abbrev S2x4x256x512 : Shape := ⟨4, ![2, 4, 256, 512]⟩
abbrev S1x256x256 : Shape := ⟨3, ![1, 256, 256]⟩
abbrev S1x256x512 : Shape := ⟨3, ![1, 256, 512]⟩
abbrev S256x512 : Shape := ⟨2, ![256, 512]⟩
abbrev S1x1x256x512 : Shape := ⟨4, ![1, 1, 256, 512]⟩
abbrev S1x1x256x1 : Shape := ⟨4, ![1, 1, 256, 1]⟩
abbrev S1 : Shape := ⟨1, ![1]⟩

abbrev nBuf : Space → Nat
  | .hbm => 118
  | .vmem => 20
  | .smem => 1
  | _ => 0

abbrev bufTy : (tb : Table) → Fin (tcTables nBuf tb) → BufTy
  | .hbm, ⟨0, _⟩ => ⟨S4x4352x6144, .bf16⟩
  | .hbm, ⟨1, _⟩ => ⟨S2x4, .f32⟩
  | .hbm, ⟨2, _⟩ => ⟨S2x4, .f32⟩
  | .hbm, ⟨3, _⟩ => ⟨S_, .f32⟩
  | .hbm, ⟨4, _⟩ => ⟨S2x4, .f32⟩
  | .hbm, ⟨5, _⟩ => ⟨S2x4, .f32⟩
  | .hbm, ⟨6, _⟩ => ⟨S2x4, .f32⟩
  | .hbm, ⟨7, _⟩ => ⟨S2x4, .f32⟩
  | .hbm, ⟨8, _⟩ => ⟨S2x4, .i1⟩
  | .hbm, ⟨9, _⟩ => ⟨S2x4, .f32⟩
  | .hbm, ⟨10, _⟩ => ⟨S2x4, .f32⟩
  | .hbm, ⟨11, _⟩ => ⟨S2x4, .f32⟩
  | .hbm, ⟨12, _⟩ => ⟨S2x4, .f32⟩
  | .hbm, ⟨13, _⟩ => ⟨S2x4, .f32⟩
  | .hbm, ⟨14, _⟩ => ⟨S2x4, .f32⟩
  | .hbm, ⟨15, _⟩ => ⟨S2x4, .f32⟩
  | .hbm, ⟨16, _⟩ => ⟨S2x4, .f32⟩
  | .hbm, ⟨17, _⟩ => ⟨S2x4, .f32⟩
  | .hbm, ⟨18, _⟩ => ⟨S256, .f32⟩
  | .hbm, ⟨19, _⟩ => ⟨S256x1, .f32⟩
  | .hbm, ⟨20, _⟩ => ⟨S1x256, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S2x4x1x1, .f32⟩
  | .hbm, ⟨25, _⟩ => ⟨S_, .f32⟩
  | .hbm, ⟨26, _⟩ => ⟨S256x256, .f32⟩
  | .hbm, ⟨27, _⟩ => ⟨S256x256, .i1⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S1x1x256x256, .f32⟩
  | .hbm, ⟨32, _⟩ => ⟨S2x4x256x256, .f32⟩
  | .hbm, ⟨33, _⟩ => ⟨S2x4x256x256, .f32⟩
  | .hbm, ⟨34, _⟩ => ⟨S2x4x256x256, .f32⟩
  | .hbm, ⟨35, _⟩ => ⟨S2x4x256x256, .f32⟩
  | .hbm, ⟨36, _⟩ => ⟨S_, .f32⟩
  | .hbm, ⟨37, _⟩ => ⟨S_, .f32⟩
  | .hbm, ⟨38, _⟩ => ⟨S2x4x256x256, .i1⟩
  | .hbm, ⟨39, _⟩ => ⟨S2x4x256x256, .f32⟩
  | .hbm, ⟨40, _⟩ => ⟨S2x4x256x256, .f32⟩
  | .hbm, ⟨41, _⟩ => ⟨S_, .f32⟩
  | .hbm, ⟨42, _⟩ => ⟨S256x256, .f32⟩
  | .hbm, ⟨43, _⟩ => ⟨S256x256, .i1⟩
  | .hbm, ⟨44, _⟩ => ⟨S256x256, .f32⟩
  | .hbm, ⟨45, _⟩ => ⟨S_, .f32⟩
  | .hbm, ⟨46, _⟩ => ⟨S256x256, .f32⟩
  | .hbm, ⟨47, _⟩ => ⟨S256x256, .f32⟩
  | .hbm, ⟨48, _⟩ => ⟨S1x1x256x256, .f32⟩
  | .hbm, ⟨49, _⟩ => ⟨S2x4x256x256, .f32⟩
  | .hbm, ⟨50, _⟩ => ⟨S2x4x256x256, .f32⟩
  | .hbm, ⟨51, _⟩ => ⟨S2x4x256x256, .f32⟩
  | .hbm, ⟨52, _⟩ => ⟨S2x4x256x256, .f32⟩
  | .hbm, ⟨53, _⟩ => ⟨S_, .f32⟩
  | .hbm, ⟨54, _⟩ => ⟨S_, .f32⟩
  | .hbm, ⟨55, _⟩ => ⟨S2x4x256x256, .i1⟩
  | .hbm, ⟨56, _⟩ => ⟨S2x4x256x256, .f32⟩
  | .hbm, ⟨57, _⟩ => ⟨S2x4x256x256, .f32⟩
  | .hbm, ⟨58, _⟩ => ⟨S1x4x256x256, .f32⟩
  | .hbm, ⟨59, _⟩ => ⟨S4x256x256, .f32⟩
  | .hbm, ⟨60, _⟩ => ⟨S1x4x256x256, .f32⟩
  | .hbm, ⟨61, _⟩ => ⟨S4x256x256, .f32⟩
  | .hbm, ⟨62, _⟩ => ⟨S1x4x256x256, .f32⟩
  | .hbm, ⟨63, _⟩ => ⟨S1x4x256x256, .f32⟩
  | .hbm, ⟨64, _⟩ => ⟨S2x4x256x256, .f32⟩
  | .hbm, ⟨65, _⟩ => ⟨S2x4x1, .f32⟩
  | .hbm, ⟨66, _⟩ => ⟨S_, .f32⟩
  | .hbm, ⟨67, _⟩ => ⟨S256, .f32⟩
  | .hbm, ⟨68, _⟩ => ⟨S256, .f32⟩
  | .hbm, ⟨69, _⟩ => ⟨S1x256, .f32⟩
  | .hbm, ⟨70, _⟩ => ⟨S1x4x1, .f32⟩
  | .hbm, ⟨71, _⟩ => ⟨S4x1, .f32⟩
  | .hbm, ⟨72, _⟩ => ⟨S4x256, .f32⟩
  | .hbm, ⟨73, _⟩ => ⟨S4x256, .f32⟩
  | .hbm, ⟨74, _⟩ => ⟨S4x256, .f32⟩
  | .hbm, ⟨75, _⟩ => ⟨S4x256, .f32⟩
  | .hbm, ⟨76, _⟩ => ⟨S_, .f32⟩
  | .hbm, ⟨77, _⟩ => ⟨S256, .f32⟩
  | .hbm, ⟨78, _⟩ => ⟨S256, .f32⟩
  | .hbm, ⟨79, _⟩ => ⟨S1x256, .f32⟩
  | .hbm, ⟨80, _⟩ => ⟨S1x4x1, .f32⟩
  | .hbm, ⟨81, _⟩ => ⟨S4x1, .f32⟩
  | .hbm, ⟨82, _⟩ => ⟨S4x256, .f32⟩
  | .hbm, ⟨83, _⟩ => ⟨S4x256, .f32⟩
  | .hbm, ⟨84, _⟩ => ⟨S4x256, .f32⟩
  | .hbm, ⟨85, _⟩ => ⟨S4x256, .f32⟩
  | .hbm, ⟨86, _⟩ => ⟨S1x4x256, .f32⟩
  | .hbm, ⟨87, _⟩ => ⟨S1x4x256, .f32⟩
  | .hbm, ⟨88, _⟩ => ⟨S2x4x256, .f32⟩
  | .hbm, ⟨89, _⟩ => ⟨S_, .f32⟩
  | .hbm, ⟨90, _⟩ => ⟨S256, .f32⟩
  | .hbm, ⟨91, _⟩ => ⟨S256, .f32⟩
  | .hbm, ⟨92, _⟩ => ⟨S1x256, .f32⟩
  | .hbm, ⟨93, _⟩ => ⟨S1x4x1, .f32⟩
  | .hbm, ⟨94, _⟩ => ⟨S4x1, .f32⟩
  | .hbm, ⟨95, _⟩ => ⟨S4x256, .f32⟩
  | .hbm, ⟨96, _⟩ => ⟨S4x256, .f32⟩
  | .hbm, ⟨97, _⟩ => ⟨S4x256, .f32⟩
  | .hbm, ⟨98, _⟩ => ⟨S4x256, .f32⟩
  | .hbm, ⟨99, _⟩ => ⟨S1x256, .f32⟩
  | .hbm, ⟨100, _⟩ => ⟨S1x4x1, .f32⟩
  | .hbm, ⟨101, _⟩ => ⟨S4x1, .f32⟩
  | .hbm, ⟨102, _⟩ => ⟨S4x256, .f32⟩
  | .hbm, ⟨103, _⟩ => ⟨S4x256, .f32⟩
  | .hbm, ⟨104, _⟩ => ⟨S4x256, .f32⟩
  | .hbm, ⟨105, _⟩ => ⟨S4x256, .f32⟩
  | .hbm, ⟨106, _⟩ => ⟨S1x4x256, .f32⟩
  | .hbm, ⟨107, _⟩ => ⟨S1x4x256, .f32⟩
  | .hbm, ⟨108, _⟩ => ⟨S2x4x256, .f32⟩
  | .hbm, ⟨109, _⟩ => ⟨S_, .f32⟩
  | .hbm, ⟨110, _⟩ => ⟨S2x4, .f32⟩
  | .hbm, ⟨111, _⟩ => ⟨S2x4, .f32⟩
  | .hbm, ⟨112, _⟩ => ⟨S2x4, .f32⟩
  | .hbm, ⟨113, _⟩ => ⟨S8, .f32⟩
  | .hbm, ⟨114, _⟩ => ⟨S2x4x256x1, .f32⟩
  | .hbm, ⟨115, _⟩ => ⟨S2x4x256x1, .f32⟩
  | .hbm, ⟨116, _⟩ => ⟨S4x4352x2048, .bf16⟩
  | .hbm, ⟨117, _⟩ => ⟨S4x4352x2048, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x2048, .bf16⟩
  | .local _ .vmem, ⟨11, _⟩ => ⟨S1x256x2048, .bf16⟩
  | .local _ .vmem, ⟨12, _⟩ => ⟨S2x4x256x256, .f32⟩
  | .local _ .vmem, ⟨13, _⟩ => ⟨S2x4x256x1, .f32⟩
  | .local _ .vmem, ⟨14, _⟩ => ⟨S2x4x256x1, .f32⟩
  | .local _ .vmem, ⟨15, _⟩ => ⟨S1x256x2048, .bf16⟩
  | .local _ .vmem, ⟨16, _⟩ => ⟨S1x256x2048, .bf16⟩
  | .local _ .vmem, ⟨17, _⟩ => ⟨S1x256x2048, .bf16⟩
  | .local _ .vmem, ⟨18, _⟩ => ⟨S1x256x2048, .bf16⟩
  | .local _ .vmem, ⟨19, _⟩ => ⟨S2x4x256x512, .f32⟩
  | .local _ .smem, ⟨0, _⟩ => ⟨S8, .f32⟩
  | _, _ => ⟨S4x4352x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_call0_cst : Ref sig .tc := ⟨.hbm, 3, rfl⟩
abbrev main_call0_call0_v0 : Ref sig .tc := ⟨.hbm, 4, rfl⟩
abbrev main_call0_call0_v1 : Ref sig .tc := ⟨.hbm, 5, rfl⟩
abbrev main_call0_call0_v2 : Ref sig .tc := ⟨.hbm, 6, rfl⟩
abbrev main_call0_call0_v3 : Ref sig .tc := ⟨.hbm, 7, rfl⟩
abbrev main_call0_call0_v4 : Ref sig .tc := ⟨.hbm, 8, rfl⟩
abbrev main_call0_call0_v5 : Ref sig .tc := ⟨.hbm, 9, rfl⟩
abbrev main_call0_call0_v6 : Ref sig .tc := ⟨.hbm, 10, rfl⟩
abbrev main_call0_call0_v7 : Ref sig .tc := ⟨.hbm, 11, rfl⟩
abbrev main_call0_call0_v8 : Ref sig .tc := ⟨.hbm, 12, rfl⟩
abbrev main_call0_call0_v9 : Ref sig .tc := ⟨.hbm, 13, rfl⟩
abbrev main_call0_call0_v10 : Ref sig .tc := ⟨.hbm, 14, rfl⟩
abbrev main_call0_call0_v11 : Ref sig .tc := ⟨.hbm, 15, rfl⟩
abbrev main_call0_v1 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_3 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_4 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_5 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_6 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_7 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_8 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83_0 : Ref sig .tc := ⟨.hbm, 116, rfl⟩
abbrev main_v83_1 : Ref sig .tc := ⟨.hbm, 117, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 17], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c16_i32 : BitVec 32 := 16#32
  let v1 : BitVec 32 := Scalar.addi c16_i32 arg1
  let c1_i32_0 : BitVec 32 := 1#32
  let v2 : BitVec 32 := Scalar.subi arg1 c1_i32_0
  let v3 : BitVec 32 := Scalar.select v0 v1 v2
  let c0_i32 : BitVec 32 := 0#32
  let c0_i32_1 : BitVec 32 := 0#32
  ![arg0.toNat, v3.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c16_i32 : BitVec 32 := 16#32
  let v1 : BitVec 32 := Scalar.addi c16_i32 arg1
  let c1_i32_0 : BitVec 32 := 1#32
  let v2 : BitVec 32 := Scalar.subi arg1 c1_i32_0
  let v3 : BitVec 32 := Scalar.select v0 v1 v2
  let c1_i32_1 : BitVec 32 := 1#32
  let c0_i32 : BitVec 32 := 0#32
  ![arg0.toNat, v3.toNat, c1_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c16_i32 : BitVec 32 := 16#32
  let v1 : BitVec 32 := Scalar.addi c16_i32 arg1
  let c1_i32_0 : BitVec 32 := 1#32
  let v2 : BitVec 32 := Scalar.subi arg1 c1_i32_0
  let v3 : BitVec 32 := Scalar.select v0 v1 v2
  let c1_i32_1 : BitVec 32 := 1#32
  let c0_i32 : BitVec 32 := 0#32
  ![arg0.toNat, v3.toNat, c1_i32_1.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c1_i32 : BitVec 32 := 1#32
  let c0_i32 : BitVec 32 := 0#32
  ![arg0.toNat, v0.toNat, c1_i32.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c1_i32 : BitVec 32 := 1#32
  let c0_i32 : BitVec 32 := 0#32
  ![arg0.toNat, v0.toNat, c1_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c16_i32 : BitVec 32 := 16#32
  let v1 : BitVec 32 := Scalar.addi c16_i32 arg1
  let c1_i32_0 : BitVec 32 := 1#32
  let v2 : BitVec 32 := Scalar.subi arg1 c1_i32_0
  let v3 : BitVec 32 := Scalar.select v0 v1 v2
  let c0_i32 : BitVec 32 := 0#32
  let c0_i32_1 : BitVec 32 := 0#32
  ![arg0.toNat, v3.toNat, c0_i32.toNat]

def cc0_transform_11 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  ![arg0.toNat, v0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2x4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x4x256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x4x256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4x4352x6144 : Shape := ⟨3, ![4, 4352, 6144]⟩
abbrev S2x4 : Shape := ⟨2, ![2, 4]⟩
abbrev S_ : Shape := ⟨0, ![]⟩
abbrev S4x4352x1024 : Shape := ⟨3, ![4, 4352, 1024]⟩
abbrev S4x4352x2048 : Shape := ⟨3, ![4, 4352, 2048]⟩
abbrev S2x4x4x256x512 : Shape := ⟨5, ![2, 4, 4, 256, 512]⟩
abbrev S4x4352x4x256 : Shape := ⟨4, ![4, 4352, 4, 256]⟩
abbrev S4x4x4352x256 : Shape := ⟨4, ![4, 4, 4352, 256]⟩
abbrev S4x4x256x256 : Shape := ⟨4, ![4, 4, 256, 256]⟩
abbrev S4x4x4096x256 : Shape := ⟨4, ![4, 4, 4096, 256]⟩
abbrev S1x4x4x4352x256 : Shape := ⟨5, ![1, 4, 4, 4352, 256]⟩
abbrev S2x4x4x4352x256 : Shape := ⟨5, ![2, 4, 4, 4352, 256]⟩
abbrev S4x4352x4x512 : Shape := ⟨4, ![4, 4352, 4, 512]⟩
abbrev S4x4x4352x512 : Shape := ⟨4, ![4, 4, 4352, 512]⟩
abbrev S4x4x256x512 : Shape := ⟨4, ![4, 4, 256, 512]⟩
abbrev S4x4x4096x512 : Shape := ⟨4, ![4, 4, 4096, 512]⟩
abbrev S1x4x4x4352x512 : Shape := ⟨5, ![1, 4, 4, 4352, 512]⟩
abbrev S2x4x4x4352x512 : Shape := ⟨5, ![2, 4, 4, 4352, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S2x4x1 : Shape := ⟨3, ![2, 4, 1]⟩
abbrev S1x1x128x128 : Shape := ⟨4, ![1, 1, 128, 128]⟩
abbrev S2x4x1x1 : Shape := ⟨4, ![2, 4, 1, 1]⟩
abbrev S2x4x128x128 : Shape := ⟨4, ![2, 4, 128, 128]⟩
abbrev S1x1x128 : Shape := ⟨3, ![1, 1, 128]⟩
abbrev S2x4x128 : Shape := ⟨3, ![2, 4, 128]⟩
abbrev S2x4x4x34x128x256 : Shape := ⟨6, ![2, 4, 4, 34, 128, 256]⟩
abbrev S34x2x4x4x128x256 : Shape := ⟨6, ![34, 2, 4, 4, 128, 256]⟩
abbrev S2x4x4x34x128x512 : Shape := ⟨6, ![2, 4, 4, 34, 128, 512]⟩
abbrev S34x2x4x4x128x512 : Shape := ⟨6, ![34, 2, 4, 4, 128, 512]⟩
abbrev S1x2x4x4x128x256 : Shape := ⟨6, ![1, 2, 4, 4, 128, 256]⟩
abbrev S2x4x4x128x256 : Shape := ⟨5, ![2, 4, 4, 128, 256]⟩
abbrev S1x2x4x4x128x512 : Shape := ⟨6, ![1, 2, 4, 4, 128, 512]⟩
abbrev S2x4x4x128x512 : Shape := ⟨5, ![2, 4, 4, 128, 512]⟩
abbrev S2x4x4x128x128 : Shape := ⟨5, ![2, 4, 4, 128, 128]⟩
abbrev S2x1x4x128x128 : Shape := ⟨5, ![2, 1, 4, 128, 128]⟩
abbrev S2x1x4x128x1 : Shape := ⟨5, ![2, 1, 4, 128, 1]⟩
abbrev S2x1x4x1x1 : Shape := ⟨5, ![2, 1, 4, 1, 1]⟩

abbrev nBuf : Space → Nat
  | .hbm => 177
  | .vmem => 0
  | .smem => 0
  | _ => 0

abbrev hbmTy0_0 (i : Nat) : BufTy := match i % 128 with
  | 0 => ⟨S4x4352x6144, .bf16⟩
  | 1 => ⟨S2x4, .f32⟩
  | 2 => ⟨S2x4, .f32⟩
  | 3 => ⟨S_, .f32⟩
  | 4 => ⟨S2x4, .f32⟩
  | 5 => ⟨S2x4, .f32⟩
  | 6 => ⟨S2x4, .f32⟩
  | 7 => ⟨S2x4, .f32⟩
  | 8 => ⟨S2x4, .f32⟩
  | 9 => ⟨S2x4, .f32⟩
  | 10 => ⟨S2x4, .f32⟩
  | 11 => ⟨S2x4, .f32⟩
  | 12 => ⟨S4x4352x6144, .f32⟩
  | 13 => ⟨S4x4352x1024, .f32⟩
  | 14 => ⟨S4x4352x1024, .f32⟩
  | 15 => ⟨S4x4352x2048, .f32⟩
  | 16 => ⟨S4x4352x2048, .f32⟩
  | 17 => ⟨S_, .f32⟩
  | 18 => ⟨S2x4x4x256x512, .f32⟩
  | 19 => ⟨S4x4352x4x256, .f32⟩
  | 20 => ⟨S4x4x4352x256, .f32⟩
  | 21 => ⟨S4x4x256x256, .f32⟩
  | 22 => ⟨S4x4x4096x256, .f32⟩
  | 23 => ⟨S4x4x4352x256, .f32⟩
  | 24 => ⟨S4x4x4352x256, .f32⟩
  | 25 => ⟨S1x4x4x4352x256, .f32⟩
  | 26 => ⟨S1x4x4x4352x256, .f32⟩
  | 27 => ⟨S2x4x4x4352x256, .f32⟩
  | 28 => ⟨S4x4352x4x256, .f32⟩
  | 29 => ⟨S4x4x4352x256, .f32⟩
  | 30 => ⟨S4x4x256x256, .f32⟩
  | 31 => ⟨S4x4x4096x256, .f32⟩
  | 32 => ⟨S4x4x4352x256, .f32⟩
  | 33 => ⟨S4x4x4352x256, .f32⟩
  | 34 => ⟨S1x4x4x4352x256, .f32⟩
  | 35 => ⟨S1x4x4x4352x256, .f32⟩
  | 36 => ⟨S2x4x4x4352x256, .f32⟩
  | 37 => ⟨S4x4352x4x512, .f32⟩
  | 38 => ⟨S4x4x4352x512, .f32⟩
  | 39 => ⟨S4x4x256x512, .f32⟩
  | 40 => ⟨S4x4x4096x512, .f32⟩
  | 41 => ⟨S4x4x4352x512, .f32⟩
  | 42 => ⟨S4x4x4352x512, .f32⟩
  | 43 => ⟨S1x4x4x4352x512, .f32⟩
  | 44 => ⟨S1x4x4x4352x512, .f32⟩
  | 45 => ⟨S2x4x4x4352x512, .f32⟩
  | 46 => ⟨S128, .f32⟩
  | 47 => ⟨S128x1, .f32⟩
  | 48 => ⟨S1x128, .f32⟩
  | 49 => ⟨S128x128, .f32⟩
  | 50 => ⟨S128x128, .f32⟩
  | 51 => ⟨S128x128, .f32⟩
  | 52 => ⟨S2x4x1, .f32⟩
  | 53 => ⟨S_, .f32⟩
  | 54 => ⟨S128x128, .f32⟩
  | 55 => ⟨S128x128, .i1⟩
  | 56 => ⟨S_, .f32⟩
  | 57 => ⟨S128x128, .f32⟩
  | 58 => ⟨S128x128, .f32⟩
  | 59 => ⟨S1x1x128x128, .f32⟩
  | 60 => ⟨S2x4x1x1, .f32⟩
  | 61 => ⟨S2x4x128x128, .f32⟩
  | 62 => ⟨S2x4x128x128, .f32⟩
  | 63 => ⟨S2x4x128x128, .f32⟩
  | 64 => ⟨S2x4x128x128, .f32⟩
  | 65 => ⟨S_, .f32⟩
  | 66 => ⟨S_, .f32⟩
  | 67 => ⟨S2x4x128x128, .i1⟩
  | 68 => ⟨S2x4x128x128, .f32⟩
  | 69 => ⟨S2x4x128x128, .f32⟩
  | 70 => ⟨S_, .f32⟩
  | 71 => ⟨S128, .f32⟩
  | 72 => ⟨S128, .f32⟩
  | 73 => ⟨S1x1x128, .f32⟩
  | 74 => ⟨S2x4x128, .f32⟩
  | 75 => ⟨S2x4x128, .f32⟩
  | 76 => ⟨S2x4x128, .f32⟩
  | 77 => ⟨S2x4x128, .f32⟩
  | 78 => ⟨S_, .f32⟩
  | 79 => ⟨S128, .f32⟩
  | 80 => ⟨S128, .f32⟩
  | 81 => ⟨S1x1x128, .f32⟩
  | 82 => ⟨S2x4x128, .f32⟩
  | 83 => ⟨S2x4x128, .f32⟩
  | 84 => ⟨S2x4x128, .f32⟩
  | 85 => ⟨S2x4x128, .f32⟩
  | 86 => ⟨S_, .f32⟩
  | 87 => ⟨S2x4, .f32⟩
  | 88 => ⟨S2x4, .f32⟩
  | 89 => ⟨S2x4, .f32⟩
  | 90 => ⟨S2x4x4x34x128x256, .f32⟩
  | 91 => ⟨S34x2x4x4x128x256, .f32⟩
  | 92 => ⟨S2x4x4x34x128x256, .f32⟩
  | 93 => ⟨S34x2x4x4x128x256, .f32⟩
  | 94 => ⟨S2x4x4x34x128x512, .f32⟩
  | 95 => ⟨S34x2x4x4x128x512, .f32⟩
  | 96 => ⟨S_, .f32⟩
  | 97 => ⟨S34x2x4x4x128x512, .f32⟩
  | 98 => ⟨S_, .i32⟩
  | 99 => ⟨S34x2x4x4x128x256, .f32⟩
  | 100 => ⟨S34x2x4x4x128x256, .f32⟩
  | 101 => ⟨S34x2x4x4x128x512, .f32⟩
  | 102 => ⟨S2x4x128x128, .f32⟩
  | 103 => ⟨S2x4x128, .f32⟩
  | 104 => ⟨S2x4, .f32⟩
  | 105 => ⟨S2x4x128, .f32⟩
  | 106 => ⟨S_, .i32⟩
  | 107 => ⟨S2x4x4x256x512, .f32⟩
  | 108 => ⟨S34x2x4x4x128x512, .f32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i32⟩
  | 116 => ⟨S1x2x4x4x128x256, .f32⟩
  | 117 => ⟨S2x4x4x128x256, .f32⟩
  | 118 => ⟨S_, .i32⟩
  | 119 => ⟨S_, .i32⟩
  | 120 => ⟨S_, .i32⟩
  | 121 => ⟨S_, .i32⟩
  | 122 => ⟨S_, .i32⟩
  | 123 => ⟨S1x2x4x4x128x256, .f32⟩
  | 124 => ⟨S2x4x4x128x256, .f32⟩
  | 125 => ⟨S_, .i32⟩
  | 126 => ⟨S_, .i32⟩
  | 127 => ⟨S_, .i32⟩
  | _ => ⟨S4x4352x6144, .bf16⟩

abbrev hbmTy0_1 (i : Nat) : BufTy := match i % 128 with
  | 0 => ⟨S_, .i32⟩
  | 1 => ⟨S_, .i32⟩
  | 2 => ⟨S1x2x4x4x128x512, .f32⟩
  | 3 => ⟨S2x4x4x128x512, .f32⟩
  | 4 => ⟨S2x4x4x128x128, .f32⟩
  | 5 => ⟨S2x1x4x128x128, .f32⟩
  | 6 => ⟨S2x4x4x128x128, .f32⟩
  | 7 => ⟨S2x4x4x128x128, .f32⟩
  | 8 => ⟨S2x4x4x128x512, .f32⟩
  | 9 => ⟨S2x1x4x128x1, .f32⟩
  | 10 => ⟨S2x4x4x128x256, .f32⟩
  | 11 => ⟨S2x4x4x128x256, .f32⟩
  | 12 => ⟨S2x4x4x128x512, .f32⟩
  | 13 => ⟨S2x4x4x128x512, .f32⟩
  | 14 => ⟨S2x1x4x1x1, .f32⟩
  | 15 => ⟨S2x4x4x256x512, .f32⟩
  | 16 => ⟨S2x4x4x256x512, .f32⟩
  | 17 => ⟨S2x1x4x128x1, .f32⟩
  | 18 => ⟨S2x4x4x128x256, .f32⟩
  | 19 => ⟨S2x4x4x128x256, .f32⟩
  | 20 => ⟨S2x4x4x256x512, .f32⟩
  | 21 => ⟨S2x4x4x256x512, .f32⟩
  | 22 => ⟨S1x2x4x4x128x512, .f32⟩
  | 23 => ⟨S_, .i32⟩
  | 24 => ⟨S_, .i32⟩
  | 25 => ⟨S_, .i32⟩
  | 26 => ⟨S_, .i32⟩
  | 27 => ⟨S_, .i32⟩
  | 28 => ⟨S34x2x4x4x128x512, .f32⟩
  | 29 => ⟨S_, .i32⟩
  | 30 => ⟨S_, .i32⟩
  | 31 => ⟨S2x4x4x34x128x512, .f32⟩
  | 32 => ⟨S2x4x4x4352x512, .f32⟩
  | 33 => ⟨S1x4x4x4352x512, .f32⟩
  | 34 => ⟨S4x4x4352x512, .f32⟩
  | 35 => ⟨S4x4x4096x512, .f32⟩
  | 36 => ⟨S1x4x4x4352x512, .f32⟩
  | 37 => ⟨S4x4x4352x512, .f32⟩
  | 38 => ⟨S4x4x256x512, .f32⟩
  | 39 => ⟨S4x4x4352x512, .f32⟩
  | 40 => ⟨S4x4352x4x512, .f32⟩
  | 41 => ⟨S4x4352x2048, .f32⟩
  | 42 => ⟨S4x4352x2048, .bf16⟩
  | 43 => ⟨S1x4x4x4352x512, .f32⟩
  | 44 => ⟨S4x4x4352x512, .f32⟩
  | 45 => ⟨S4x4x4352x512, .f32⟩
  | 46 => ⟨S4x4352x4x512, .f32⟩
  | 47 => ⟨S4x4352x2048, .f32⟩
  | 48 => ⟨S4x4352x2048, .bf16⟩
  | _ => ⟨S4x4352x6144, .bf16⟩

abbrev hbmTy (i : Nat) : BufTy := match i / 128 with
  | 0 => hbmTy0_0 i
  | 1 => hbmTy0_1 i
  | _ => ⟨S4x4352x6144, .bf16⟩

abbrev bufTy : (tb : Table) → Fin (tcTables nBuf tb) → BufTy
  | .hbm, ⟨i, _⟩ => hbmTy i
  | _, _ => ⟨S4x4352x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_cst_1 : Ref sig .tc := ⟨.hbm, 53, rfl⟩
abbrev main_v49 : Ref sig .tc := ⟨.hbm, 54, rfl⟩
abbrev main_v50 : Ref sig .tc := ⟨.hbm, 55, rfl⟩
abbrev main_cst_2 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_cst_3 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_v59 : Ref sig .tc := ⟨.hbm, 69, rfl⟩
abbrev main_cst_4 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_cst_5 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_6 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_cst_7 : Ref sig .tc := ⟨.hbm, 96, rfl⟩
abbrev main_v83 : Ref sig .tc := ⟨.hbm, 97, rfl⟩
abbrev main_c : Ref sig .tc := ⟨.hbm, 98, rfl⟩
abbrev main_v84_0 : Ref sig .tc := ⟨.hbm, 99, rfl⟩
abbrev main_v84_1 : Ref sig .tc := ⟨.hbm, 100, rfl⟩
abbrev main_v84_2 : Ref sig .tc := ⟨.hbm, 101, rfl⟩
abbrev main_v84_3 : Ref sig .tc := ⟨.hbm, 102, rfl⟩
abbrev main_v84_4 : Ref sig .tc := ⟨.hbm, 103, rfl⟩
abbrev main_v84_5 : Ref sig .tc := ⟨.hbm, 104, rfl⟩
abbrev main_v84_6 : Ref sig .tc := ⟨.hbm, 105, rfl⟩
abbrev main_v84_7 : Ref sig .tc := ⟨.hbm, 106, rfl⟩
abbrev main_v84_8 : Ref sig .tc := ⟨.hbm, 107, rfl⟩
abbrev main_v84_9 : Ref sig .tc := ⟨.hbm, 108, rfl⟩
abbrev main_while0c_c_17 : Ref sig .tc := ⟨.hbm, 109, rfl⟩
abbrev main_while0c_v103 : Ref sig .tc := ⟨.hbm, 110, rfl⟩
abbrev main_while0b_call1_c : Ref sig .tc := ⟨.hbm, 111, rfl⟩
abbrev main_while0b_call1_c_0 : Ref sig .tc := ⟨.hbm, 112, rfl⟩
abbrev main_while0b_call1_c_1 : Ref sig .tc := ⟨.hbm, 113, rfl⟩
abbrev main_while0b_call1_c_2 : Ref sig .tc := ⟨.hbm, 114, rfl⟩
abbrev main_while0b_call1_c_3 : Ref sig .tc := ⟨.hbm, 115, rfl⟩
abbrev main_while0b_call1_v0 : Ref sig .tc := ⟨.hbm, 116, rfl⟩
abbrev main_while0b_v103 : Ref sig .tc := ⟨.hbm, 117, rfl⟩
abbrev main_while0b_call2_c : Ref sig .tc := ⟨.hbm, 118, rfl⟩
abbrev main_while0b_call2_c_0 : Ref sig .tc := ⟨.hbm, 119, rfl⟩
abbrev main_while0b_call2_c_1 : Ref sig .tc := ⟨.hbm, 120, rfl⟩
abbrev main_while0b_call2_c_2 : Ref sig .tc := ⟨.hbm, 121, rfl⟩
abbrev main_while0b_call2_c_3 : Ref sig .tc := ⟨.hbm, 122, rfl⟩
abbrev main_while0b_call2_v0 : Ref sig .tc := ⟨.hbm, 123, rfl⟩
abbrev main_while0b_v104 : Ref sig .tc := ⟨.hbm, 124, rfl⟩
abbrev main_while0b_call3_c : Ref sig .tc := ⟨.hbm, 125, rfl⟩
abbrev main_while0b_call3_c_0 : Ref sig .tc := ⟨.hbm, 126, rfl⟩
abbrev main_while0b_call3_c_1 : Ref sig .tc := ⟨.hbm, 127, rfl⟩
abbrev main_while0b_call3_c_2 : Ref sig .tc := ⟨.hbm, 128, rfl⟩
abbrev main_while0b_call3_c_3 : Ref sig .tc := ⟨.hbm, 129, rfl⟩
abbrev main_while0b_call3_v0 : Ref sig .tc := ⟨.hbm, 130, rfl⟩
abbrev main_while0b_v105 : Ref sig .tc := ⟨.hbm, 131, rfl⟩
abbrev main_while0b_v106 : Ref sig .tc := ⟨.hbm, 132, rfl⟩
abbrev main_while0b_v107 : Ref sig .tc := ⟨.hbm, 133, rfl⟩
abbrev main_while0b_v108 : Ref sig .tc := ⟨.hbm, 134, rfl⟩
abbrev main_while0b_v109 : Ref sig .tc := ⟨.hbm, 135, rfl⟩
abbrev main_while0b_v110 : Ref sig .tc := ⟨.hbm, 136, rfl⟩
abbrev main_while0b_v111 : Ref sig .tc := ⟨.hbm, 137, rfl⟩
abbrev main_while0b_v112 : Ref sig .tc := ⟨.hbm, 138, rfl⟩
abbrev main_while0b_v113 : Ref sig .tc := ⟨.hbm, 139, rfl⟩
abbrev main_while0b_v114 : Ref sig .tc := ⟨.hbm, 140, rfl⟩
abbrev main_while0b_v115 : Ref sig .tc := ⟨.hbm, 141, rfl⟩
abbrev main_while0b_v116 : Ref sig .tc := ⟨.hbm, 142, rfl⟩
abbrev main_while0b_v117 : Ref sig .tc := ⟨.hbm, 143, rfl⟩
abbrev main_while0b_v118 : Ref sig .tc := ⟨.hbm, 144, rfl⟩
abbrev main_while0b_v119 : Ref sig .tc := ⟨.hbm, 145, rfl⟩
abbrev main_while0b_v120 : Ref sig .tc := ⟨.hbm, 146, rfl⟩
abbrev main_while0b_v121 : Ref sig .tc := ⟨.hbm, 147, rfl⟩
abbrev main_while0b_v122 : Ref sig .tc := ⟨.hbm, 148, rfl⟩
abbrev main_while0b_v123 : Ref sig .tc := ⟨.hbm, 149, rfl⟩
abbrev main_while0b_call4_v0 : Ref sig .tc := ⟨.hbm, 150, rfl⟩
abbrev main_while0b_call4_c : Ref sig .tc := ⟨.hbm, 151, rfl⟩
abbrev main_while0b_call4_c_0 : Ref sig .tc := ⟨.hbm, 152, rfl⟩
abbrev main_while0b_call4_c_1 : Ref sig .tc := ⟨.hbm, 153, rfl⟩
abbrev main_while0b_call4_c_2 : Ref sig .tc := ⟨.hbm, 154, rfl⟩
abbrev main_while0b_call4_c_3 : Ref sig .tc := ⟨.hbm, 155, rfl⟩
abbrev main_while0b_v124 : Ref sig .tc := ⟨.hbm, 156, rfl⟩
abbrev main_while0b_c_17 : Ref sig .tc := ⟨.hbm, 157, rfl⟩
abbrev main_while0b_v125 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩

abbrev nD : Nat := 1
abbrev τ : Topo := Topo.v7x

variable {F : FTy → Type} [FloatOps F]

abbrev main_while0_count : Scf.Loop 32 := ⟨0#32, 34#32, 1#32⟩
-- ==== Projection.lean ====
abbrev S4x4352x1024 : Shape := ⟨3, ![4, 4352, 1024]⟩
abbrev S2x1024x6144 : Shape := ⟨3, ![2, 1024, 6144]⟩
abbrev S17408x1024 : Shape := ⟨2, ![17408, 1024]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x256 : Shape := ⟨2, ![4096, 256]⟩
abbrev S256x256 : Shape := ⟨2, ![256, 256]⟩
abbrev S4352x256 : Shape := ⟨2, ![4352, 256]⟩
abbrev S1x4352x256 : Shape := ⟨3, ![1, 4352, 256]⟩
abbrev S2x4352x256 : Shape := ⟨3, ![2, 4352, 256]⟩
abbrev S17408x6144 : Shape := ⟨2, ![17408, 6144]⟩
abbrev S1088x1024 : Shape := ⟨2, ![1088, 1024]⟩
abbrev S1x1024x1024 : Shape := ⟨3, ![1, 1024, 1024]⟩
abbrev S1x1088x256 : Shape := ⟨3, ![1, 1088, 256]⟩
abbrev S1024x1024 : Shape := ⟨2, ![1024, 1024]⟩
abbrev S1088x128 : Shape := ⟨2, ![1088, 128]⟩
abbrev S1x1088x128 : Shape := ⟨3, ![1, 1088, 128]⟩

abbrev nBuf : Space → Nat
  | .hbm => 91
  | .vmem => 11
  | .smem => 0
  | _ => 0

abbrev bufTy : (tb : Table) → Fin (tcTables nBuf tb) → BufTy
  | .hbm, ⟨0, _⟩ => ⟨S4x4352x1024, .bf16⟩
  | .hbm, ⟨1, _⟩ => ⟨S2x1024x6144, .f32⟩
  | .hbm, ⟨2, _⟩ => ⟨S17408x1024, .bf16⟩
  | .hbm, ⟨3, _⟩ => ⟨S4096, .i32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S4096, .f32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i1⟩
  | .hbm, ⟨45, _⟩ => ⟨S_, .i32⟩
  | .hbm, ⟨46, _⟩ => ⟨S_, .i1⟩
  | .hbm, ⟨47, _⟩ => ⟨S4096, .i1⟩
  | .hbm, ⟨48, _⟩ => ⟨S4096, .i1⟩
  | .hbm, ⟨49, _⟩ => ⟨S4096, .i1⟩
  | .hbm, ⟨50, _⟩ => ⟨S4096, .i32⟩
  | .hbm, ⟨51, _⟩ => ⟨S4096, .i32⟩
  | .hbm, ⟨52, _⟩ => ⟨S4096, .i32⟩
  | .hbm, ⟨53, _⟩ => ⟨S4096, .f32⟩
  | .hbm, ⟨54, _⟩ => ⟨S4096x1, .f32⟩
  | .hbm, ⟨55, _⟩ => ⟨S1x64, .f32⟩
  | .hbm, ⟨56, _⟩ => ⟨S4096x64, .f32⟩
  | .hbm, ⟨57, _⟩ => ⟨S4096x64, .f32⟩
  | .hbm, ⟨58, _⟩ => ⟨S4096x64, .f32⟩
  | .hbm, ⟨59, _⟩ => ⟨S4096x64, .f32⟩
  | .hbm, ⟨60, _⟩ => ⟨S4096x64, .f32⟩
  | .hbm, ⟨61, _⟩ => ⟨S4096x64, .f32⟩
  | .hbm, ⟨62, _⟩ => ⟨S4096x1, .f32⟩
  | .hbm, ⟨63, _⟩ => ⟨S1x64, .f32⟩
  | .hbm, ⟨64, _⟩ => ⟨S4096x64, .f32⟩
  | .hbm, ⟨65, _⟩ => ⟨S4096x64, .f32⟩
  | .hbm, ⟨66, _⟩ => ⟨S4096x64, .f32⟩
  | .hbm, ⟨67, _⟩ => ⟨S4096x64, .f32⟩
  | .hbm, ⟨68, _⟩ => ⟨S4096x64, .f32⟩
  | .hbm, ⟨69, _⟩ => ⟨S4096x64, .f32⟩
  | .hbm, ⟨70, _⟩ => ⟨S4096x256, .f32⟩
  | .hbm, ⟨71, _⟩ => ⟨S_, .f32⟩
  | .hbm, ⟨72, _⟩ => ⟨S256x256, .f32⟩
  | .hbm, ⟨73, _⟩ => ⟨S4352x256, .f32⟩
  | .hbm, ⟨74, _⟩ => ⟨S4096x256, .f32⟩
  | .hbm, ⟨75, _⟩ => ⟨S_, .f32⟩
  | .hbm, ⟨76, _⟩ => ⟨S256x256, .f32⟩
  | .hbm, ⟨77, _⟩ => ⟨S4352x256, .f32⟩
  | .hbm, ⟨78, _⟩ => ⟨S_, .f32⟩
  | .hbm, ⟨79, _⟩ => ⟨S4352x256, .f32⟩
  | .hbm, ⟨80, _⟩ => ⟨S4352x256, .f32⟩
  | .hbm, ⟨81, _⟩ => ⟨S1x4352x256, .f32⟩
  | .hbm, ⟨82, _⟩ => ⟨S1x4352x256, .f32⟩
  | .hbm, ⟨83, _⟩ => ⟨S2x4352x256, .f32⟩
  | .hbm, ⟨84, _⟩ => ⟨S_, .f32⟩
  | .hbm, ⟨85, _⟩ => ⟨S4352x256, .f32⟩
  | .hbm, ⟨86, _⟩ => ⟨S4352x256, .f32⟩
  | .hbm, ⟨87, _⟩ => ⟨S1x4352x256, .f32⟩
  | .hbm, ⟨88, _⟩ => ⟨S1x4352x256, .f32⟩
  | .hbm, ⟨89, _⟩ => ⟨S2x4352x256, .f32⟩
  | .hbm, ⟨90, _⟩ => ⟨S17408x6144, .bf16⟩
  | .local _ .vmem, ⟨0, _⟩ => ⟨S1088x1024, .bf16⟩
  | .local _ .vmem, ⟨1, _⟩ => ⟨S1088x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1088x256, .f32⟩
  | .local _ .vmem, ⟨5, _⟩ => ⟨S1x1088x256, .f32⟩
  | .local _ .vmem, ⟨6, _⟩ => ⟨S1x1088x256, .f32⟩
  | .local _ .vmem, ⟨7, _⟩ => ⟨S1x1088x256, .f32⟩
  | .local _ .vmem, ⟨8, _⟩ => ⟨S1088x1024, .bf16⟩
  | .local _ .vmem, ⟨9, _⟩ => ⟨S1088x1024, .bf16⟩
  | .local _ .vmem, ⟨10, _⟩ => ⟨S1024x1024, .bf16⟩
  | _, _ => ⟨S4x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v8 : Ref sig .tc := ⟨.hbm, 29, rfl⟩
abbrev main_v9 : Ref sig .tc := ⟨.hbm, 30, rfl⟩
abbrev main_c_1 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_cst_2 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_3 : Ref sig .tc := ⟨.hbm, 75, rfl⟩
abbrev main_v32 : Ref sig .tc := ⟨.hbm, 76, rfl⟩
abbrev main_v33 : Ref sig .tc := ⟨.hbm, 77, rfl⟩
abbrev main_cst_4 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_5 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 16], ![false, false]⟩

def k0_cond2 (i : grid0.Coords) : BitVec 1 :=
  let arg0 : BitVec 32 := BitVec.ofNat 32 (i 0).val
  let c2_i32 : BitVec 32 := 2#32
  let v7 : BitVec 1 := Scalar.cmpi .slt arg0 c2_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg0 : BitVec 32 := BitVec.ofNat 32 (i 0).val
  let c2_i32_5 : BitVec 32 := 2#32
  let v10 : BitVec 1 := Scalar.cmpi .sge arg0 c2_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c4_i32 : BitVec 32 := 4#32
  let c0_i32 : BitVec 32 := 0#32
  let v1 : BitVec 1 := Scalar.cmpi .eq c4_i32 c0_i32
  let c1_i32_0 : BitVec 32 := 1#32
  let v2 : BitVec 32 := Scalar.select v1 c1_i32_0 c4_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![v0.toNat, v10.toNat, c0_i32_4.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c4_i32 : BitVec 32 := 4#32
  let c0_i32 : BitVec 32 := 0#32
  let v1 : BitVec 1 := Scalar.cmpi .eq c4_i32 c0_i32
  let c1_i32_0 : BitVec 32 := 1#32
  let v2 : BitVec 32 := Scalar.select v1 c1_i32_0 c4_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![v0.toNat, v10.toNat, c0_i32_4.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1088x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1088x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjectionReferenceIdeal.lean ====
abbrev S4x4352x1024 : Shape := ⟨3, ![4, 4352, 1024]⟩
abbrev S2x1024x6144 : Shape := ⟨3, ![2, 1024, 6144]⟩
abbrev S4x4096x1024 : Shape := ⟨3, ![4, 4096, 1024]⟩
abbrev S4x256x1024 : Shape := ⟨3, ![4, 256, 1024]⟩
abbrev S1x1024x6144 : Shape := ⟨3, ![1, 1024, 6144]⟩
abbrev S1024x6144 : Shape := ⟨2, ![1024, 6144]⟩
abbrev S4x4096x6144 : Shape := ⟨3, ![4, 4096, 6144]⟩
abbrev S4x4096x2048 : Shape := ⟨3, ![4, 4096, 2048]⟩
abbrev S4x4096x4x256 : Shape := ⟨4, ![4, 4096, 4, 256]⟩
abbrev S4096 : Shape := ⟨1, ![4096]⟩
abbrev S_ : Shape := ⟨0, ![]⟩
abbrev S64 : Shape := ⟨1, ![64]⟩
abbrev S4x4096x4x128 : Shape := ⟨4, ![4, 4096, 4, 128]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S4x4096x4x64 : Shape := ⟨4, ![4, 4096, 4, 64]⟩
abbrev S4x256x6144 : Shape := ⟨3, ![4, 256, 6144]⟩
abbrev S4x256x2048 : Shape := ⟨3, ![4, 256, 2048]⟩
abbrev S4x4352x6144 : Shape := ⟨3, ![4, 4352, 6144]⟩
abbrev S17408x6144 : Shape := ⟨2, ![17408, 6144]⟩

abbrev nBuf : Space → Nat
  | .hbm => 230
  | .vmem => 0
  | .smem => 0
  | _ => 0

abbrev hbmTy0_0 (i : Nat) : BufTy := match i % 128 with
  | 0 => ⟨S4x4352x1024, .bf16⟩
  | 1 => ⟨S2x1024x6144, .f32⟩
  | 2 => ⟨S4x4352x1024, .f32⟩
  | 3 => ⟨S4x4096x1024, .f32⟩
  | 4 => ⟨S4x256x1024, .f32⟩
  | 5 => ⟨S1x1024x6144, .f32⟩
  | 6 => ⟨S1024x6144, .f32⟩
  | 7 => ⟨S4x4096x6144, .f32⟩
  | 8 => ⟨S4x4096x1024, .f32⟩
  | 9 => ⟨S4x4096x1024, .f32⟩
  | 10 => ⟨S4x4096x2048, .f32⟩
  | 11 => ⟨S4x4096x2048, .f32⟩
  | 12 => ⟨S4x4096x4x256, .f32⟩
  | 13 => ⟨S4096, .i32⟩
  | 14 => ⟨S_, .i32⟩
  | 15 => ⟨S_, .i32⟩
  | 16 => ⟨S4096, .i32⟩
  | 17 => ⟨S4096, .i32⟩
  | 18 => ⟨S4096, .i32⟩
  | 19 => ⟨S_, .i32⟩
  | 20 => ⟨S4096, .i32⟩
  | 21 => ⟨S4096, .i1⟩
  | 22 => ⟨S4096, .i32⟩
  | 23 => ⟨S4096, .i32⟩
  | 24 => ⟨S_, .i32⟩
  | 25 => ⟨S4096, .i32⟩
  | 26 => ⟨S4096, .i1⟩
  | 27 => ⟨S4096, .i1⟩
  | 28 => ⟨S_, .i32⟩
  | 29 => ⟨S4096, .i32⟩
  | 30 => ⟨S4096, .i32⟩
  | 31 => ⟨S4096, .i32⟩
  | 32 => ⟨S4096, .f32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S4096, .i32⟩
  | 40 => ⟨S4096, .i32⟩
  | 41 => ⟨S_, .i32⟩
  | 42 => ⟨S4096, .i32⟩
  | 43 => ⟨S4096, .i1⟩
  | 44 => ⟨S_, .i32⟩
  | 45 => ⟨S4096, .i32⟩
  | 46 => ⟨S4096, .i1⟩
  | 47 => ⟨S_, .i32⟩
  | 48 => ⟨S_, .i1⟩
  | 49 => ⟨S4096, .i1⟩
  | 50 => ⟨S4096, .i1⟩
  | 51 => ⟨S4096, .i1⟩
  | 52 => ⟨S4096, .i32⟩
  | 53 => ⟨S4096, .i32⟩
  | 54 => ⟨S4096, .i32⟩
  | 55 => ⟨S4096, .f32⟩
  | 56 => ⟨S64, .f32⟩
  | 57 => ⟨S64, .f32⟩
  | 58 => ⟨S_, .f32⟩
  | 59 => ⟨S64, .f32⟩
  | 60 => ⟨S64, .f32⟩
  | 61 => ⟨S_, .f32⟩
  | 62 => ⟨S64, .f32⟩
  | 63 => ⟨S64, .f32⟩
  | 64 => ⟨S4x4096x4x128, .f32⟩
  | 65 => ⟨S4096x1, .f32⟩
  | 66 => ⟨S1x64, .f32⟩
  | 67 => ⟨S4096x64, .f32⟩
  | 68 => ⟨S4096x64, .f32⟩
  | 69 => ⟨S4096x64, .f32⟩
  | 70 => ⟨S4096x64, .f32⟩
  | 71 => ⟨S1x4096x1x64, .f32⟩
  | 72 => ⟨S4096x64, .f32⟩
  | 73 => ⟨S1x4096x1x64, .f32⟩
  | 74 => ⟨S4x4096x4x64, .f32⟩
  | 75 => ⟨S4x4096x4x64, .f32⟩
  | 76 => ⟨S4x4096x4x64, .f32⟩
  | 77 => ⟨S4x4096x4x64, .f32⟩
  | 78 => ⟨S4x4096x4x64, .f32⟩
  | 79 => ⟨S4x4096x4x64, .f32⟩
  | 80 => ⟨S4x4096x4x64, .f32⟩
  | 81 => ⟨S4x4096x4x64, .f32⟩
  | 82 => ⟨S4x4096x4x64, .f32⟩
  | 83 => ⟨S4x4096x4x64, .f32⟩
  | 84 => ⟨S4x4096x4x64, .f32⟩
  | 85 => ⟨S4x4096x4x64, .f32⟩
  | 86 => ⟨S4x4096x4x128, .f32⟩
  | 87 => ⟨S4x4096x4x128, .f32⟩
  | 88 => ⟨S4096x1, .f32⟩
  | 89 => ⟨S1x64, .f32⟩
  | 90 => ⟨S4096x64, .f32⟩
  | 91 => ⟨S4096x64, .f32⟩
  | 92 => ⟨S4096x64, .f32⟩
  | 93 => ⟨S4096x64, .f32⟩
  | 94 => ⟨S1x4096x1x64, .f32⟩
  | 95 => ⟨S4096x64, .f32⟩
  | 96 => ⟨S1x4096x1x64, .f32⟩
  | 97 => ⟨S4x4096x4x64, .f32⟩
  | 98 => ⟨S4x4096x4x64, .f32⟩
  | 99 => ⟨S4x4096x4x64, .f32⟩
  | 100 => ⟨S4x4096x4x64, .f32⟩
  | 101 => ⟨S4x4096x4x64, .f32⟩
  | 102 => ⟨S4x4096x4x64, .f32⟩
  | 103 => ⟨S4x4096x4x64, .f32⟩
  | 104 => ⟨S4x4096x4x64, .f32⟩
  | 105 => ⟨S4x4096x4x64, .f32⟩
  | 106 => ⟨S4x4096x4x64, .f32⟩
  | 107 => ⟨S4x4096x4x64, .f32⟩
  | 108 => ⟨S4x4096x4x64, .f32⟩
  | 109 => ⟨S4x4096x4x128, .f32⟩
  | 110 => ⟨S4x4096x4x256, .f32⟩
  | 111 => ⟨S4x4096x1024, .f32⟩
  | 112 => ⟨S4x4096x4x256, .f32⟩
  | 113 => ⟨S4096, .i32⟩
  | 114 => ⟨S_, .i32⟩
  | 115 => ⟨S_, .i32⟩
  | 116 => ⟨S4096, .i32⟩
  | 117 => ⟨S4096, .i32⟩
  | 118 => ⟨S4096, .i32⟩
  | 119 => ⟨S_, .i32⟩
  | 120 => ⟨S4096, .i32⟩
  | 121 => ⟨S4096, .i1⟩
  | 122 => ⟨S4096, .i32⟩
  | 123 => ⟨S4096, .i32⟩
  | 124 => ⟨S_, .i32⟩
  | 125 => ⟨S4096, .i32⟩
  | 126 => ⟨S4096, .i1⟩
  | 127 => ⟨S4096, .i1⟩
  | _ => ⟨S4x4352x1024, .bf16⟩

abbrev hbmTy0_1 (i : Nat) : BufTy := match i % 128 with
  | 0 => ⟨S_, .i32⟩
  | 1 => ⟨S4096, .i32⟩
  | 2 => ⟨S4096, .i32⟩
  | 3 => ⟨S4096, .i32⟩
  | 4 => ⟨S4096, .f32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S4096, .i32⟩
  | 12 => ⟨S4096, .i32⟩
  | 13 => ⟨S_, .i32⟩
  | 14 => ⟨S4096, .i32⟩
  | 15 => ⟨S4096, .i1⟩
  | 16 => ⟨S_, .i32⟩
  | 17 => ⟨S4096, .i32⟩
  | 18 => ⟨S4096, .i1⟩
  | 19 => ⟨S_, .i32⟩
  | 20 => ⟨S_, .i1⟩
  | 21 => ⟨S4096, .i1⟩
  | 22 => ⟨S4096, .i1⟩
  | 23 => ⟨S4096, .i1⟩
  | 24 => ⟨S4096, .i32⟩
  | 25 => ⟨S4096, .i32⟩
  | 26 => ⟨S4096, .i32⟩
  | 27 => ⟨S4096, .f32⟩
  | 28 => ⟨S64, .f32⟩
  | 29 => ⟨S64, .f32⟩
  | 30 => ⟨S_, .f32⟩
  | 31 => ⟨S64, .f32⟩
  | 32 => ⟨S64, .f32⟩
  | 33 => ⟨S_, .f32⟩
  | 34 => ⟨S64, .f32⟩
  | 35 => ⟨S64, .f32⟩
  | 36 => ⟨S4x4096x4x128, .f32⟩
  | 37 => ⟨S4096x1, .f32⟩
  | 38 => ⟨S1x64, .f32⟩
  | 39 => ⟨S4096x64, .f32⟩
  | 40 => ⟨S4096x64, .f32⟩
  | 41 => ⟨S4096x64, .f32⟩
  | 42 => ⟨S4096x64, .f32⟩
  | 43 => ⟨S1x4096x1x64, .f32⟩
  | 44 => ⟨S4096x64, .f32⟩
  | 45 => ⟨S1x4096x1x64, .f32⟩
  | 46 => ⟨S4x4096x4x64, .f32⟩
  | 47 => ⟨S4x4096x4x64, .f32⟩
  | 48 => ⟨S4x4096x4x64, .f32⟩
  | 49 => ⟨S4x4096x4x64, .f32⟩
  | 50 => ⟨S4x4096x4x64, .f32⟩
  | 51 => ⟨S4x4096x4x64, .f32⟩
  | 52 => ⟨S4x4096x4x64, .f32⟩
  | 53 => ⟨S4x4096x4x64, .f32⟩
  | 54 => ⟨S4x4096x4x64, .f32⟩
  | 55 => ⟨S4x4096x4x64, .f32⟩
  | 56 => ⟨S4x4096x4x64, .f32⟩
  | 57 => ⟨S4x4096x4x64, .f32⟩
  | 58 => ⟨S4x4096x4x128, .f32⟩
  | 59 => ⟨S4x4096x4x128, .f32⟩
  | 60 => ⟨S4096x1, .f32⟩
  | 61 => ⟨S1x64, .f32⟩
  | 62 => ⟨S4096x64, .f32⟩
  | 63 => ⟨S4096x64, .f32⟩
  | 64 => ⟨S4096x64, .f32⟩
  | 65 => ⟨S4096x64, .f32⟩
  | 66 => ⟨S1x4096x1x64, .f32⟩
  | 67 => ⟨S4096x64, .f32⟩
  | 68 => ⟨S1x4096x1x64, .f32⟩
  | 69 => ⟨S4x4096x4x64, .f32⟩
  | 70 => ⟨S4x4096x4x64, .f32⟩
  | 71 => ⟨S4x4096x4x64, .f32⟩
  | 72 => ⟨S4x4096x4x64, .f32⟩
  | 73 => ⟨S4x4096x4x64, .f32⟩
  | 74 => ⟨S4x4096x4x64, .f32⟩
  | 75 => ⟨S4x4096x4x64, .f32⟩
  | 76 => ⟨S4x4096x4x64, .f32⟩
  | 77 => ⟨S4x4096x4x64, .f32⟩
  | 78 => ⟨S4x4096x4x64, .f32⟩
  | 79 => ⟨S4x4096x4x64, .f32⟩
  | 80 => ⟨S4x4096x4x64, .f32⟩
  | 81 => ⟨S4x4096x4x128, .f32⟩
  | 82 => ⟨S4x4096x4x256, .f32⟩
  | 83 => ⟨S4x4096x1024, .f32⟩
  | 84 => ⟨S_, .f32⟩
  | 85 => ⟨S4x4096x1024, .f32⟩
  | 86 => ⟨S4x4096x1024, .f32⟩
  | 87 => ⟨S1x1024x6144, .f32⟩
  | 88 => ⟨S1024x6144, .f32⟩
  | 89 => ⟨S4x256x6144, .f32⟩
  | 90 => ⟨S4x256x1024, .f32⟩
  | 91 => ⟨S4x256x1024, .f32⟩
  | 92 => ⟨S4x256x2048, .f32⟩
  | 93 => ⟨S4x256x2048, .f32⟩
  | 94 => ⟨S4x4096x6144, .f32⟩
  | 95 => ⟨S_, .f32⟩
  | 96 => ⟨S4x256x1024, .f32⟩
  | 97 => ⟨S4x256x1024, .f32⟩
  | 98 => ⟨S4x256x6144, .f32⟩
  | 99 => ⟨S4x4352x6144, .f32⟩
  | 100 => ⟨S17408x6144, .f32⟩
  | 101 => ⟨S17408x6144, .bf16⟩
  | _ => ⟨S4x4352x1024, .bf16⟩

abbrev hbmTy (i : Nat) : BufTy := match i / 128 with
  | 0 => hbmTy0_0 i
  | 1 => hbmTy0_1 i
  | _ => ⟨S4x4352x1024, .bf16⟩

abbrev bufTy : (tb : Table) → Fin (tcTables nBuf tb) → BufTy
  | .hbm, ⟨i, _⟩ => hbmTy i
  | _, _ => ⟨S4x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v12 : Ref sig .tc := ⟨.hbm, 31, rfl⟩
abbrev main_v13 : Ref sig .tc := ⟨.hbm, 32, rfl⟩
abbrev main_c_0 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst : Ref sig .tc := ⟨.hbm, 58, rfl⟩
abbrev main_v18 : Ref sig .tc := ⟨.hbm, 59, rfl⟩
abbrev main_v19 : Ref sig .tc := ⟨.hbm, 60, rfl⟩
abbrev main_cst_1 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_c_2 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_v6 : Ref sig .tc := ⟨.hbm, 121, rfl⟩
abbrev main_call2_v7 : Ref sig .tc := ⟨.hbm, 122, rfl⟩
abbrev main_call2_v8 : Ref sig .tc := ⟨.hbm, 123, rfl⟩
abbrev main_call2_c : Ref sig .tc := ⟨.hbm, 124, rfl⟩
abbrev main_call2_v9 : Ref sig .tc := ⟨.hbm, 125, rfl⟩
abbrev main_call2_v10 : Ref sig .tc := ⟨.hbm, 126, rfl⟩
abbrev main_call2_v11 : Ref sig .tc := ⟨.hbm, 127, rfl⟩
abbrev main_call2_c_0 : Ref sig .tc := ⟨.hbm, 128, rfl⟩
abbrev main_call2_v12 : Ref sig .tc := ⟨.hbm, 129, rfl⟩
abbrev main_call2_v13 : Ref sig .tc := ⟨.hbm, 130, rfl⟩
abbrev main_v72 : Ref sig .tc := ⟨.hbm, 131, rfl⟩
abbrev main_v73 : Ref sig .tc := ⟨.hbm, 132, rfl⟩
abbrev main_c_3 : Ref sig .tc := ⟨.hbm, 133, rfl⟩
abbrev main_call3_v0 : Ref sig .tc := ⟨.hbm, 134, rfl⟩
abbrev main_call3_c : Ref sig .tc := ⟨.hbm, 135, rfl⟩
abbrev main_call3_v1 : Ref sig .tc := ⟨.hbm, 136, rfl⟩
abbrev main_call3_c_0 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_call3_c_1 : Ref sig .tc := ⟨.hbm, 141, rfl⟩
abbrev main_call3_v5 : Ref sig .tc := ⟨.hbm, 142, rfl⟩
abbrev main_call3_v6 : Ref sig .tc := ⟨.hbm, 143, rfl⟩
abbrev main_call3_c_2 : Ref sig .tc := ⟨.hbm, 144, rfl⟩
abbrev main_call3_v7 : Ref sig .tc := ⟨.hbm, 145, rfl⟩
abbrev main_call3_v8 : Ref sig .tc := ⟨.hbm, 146, rfl⟩
abbrev main_call3_c_3 : Ref sig .tc := ⟨.hbm, 147, rfl⟩
abbrev main_call3_v9 : Ref sig .tc := ⟨.hbm, 148, rfl⟩
abbrev main_call3_v10 : Ref sig .tc := ⟨.hbm, 149, rfl⟩
abbrev main_call3_v11 : Ref sig .tc := ⟨.hbm, 150, rfl⟩
abbrev main_call3_v12 : Ref sig .tc := ⟨.hbm, 151, rfl⟩
abbrev main_call3_v13 : Ref sig .tc := ⟨.hbm, 152, rfl⟩
abbrev main_call3_v14 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_cst_4 : Ref sig .tc := ⟨.hbm, 158, rfl⟩
abbrev main_v78 : Ref sig .tc := ⟨.hbm, 159, rfl⟩
abbrev main_v79 : Ref sig .tc := ⟨.hbm, 160, rfl⟩
abbrev main_cst_5 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_cst_6 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_cst_7 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩

abbrev nD : Nat := 1
abbrev τ : Topo := Topo.v7x

variable {F : FTy → Type} [FloatOps F]
-- ==== Neighbourhood.lean ====
abbrev S4x4352x1024 : Shape := ⟨3, ![4, 4352, 1024]⟩
abbrev S1x1024x3072 : Shape := ⟨3, ![1, 1024, 3072]⟩
abbrev S17408x1024 : Shape := ⟨2, ![17408, 1024]⟩
abbrev S17408x3072 : Shape := ⟨2, ![17408, 3072]⟩
abbrev S1088x1024 : Shape := ⟨2, ![1088, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4x4352x1024, .bf16⟩
  | .hbm, ⟨1, _⟩ => ⟨S1x1024x3072, .f32⟩
  | .hbm, ⟨2, _⟩ => ⟨S17408x1024, .bf16⟩
  | .hbm, ⟨3, _⟩ => ⟨S17408x3072, .bf16⟩
  | .local _ .vmem, ⟨0, _⟩ => ⟨S1088x1024, .bf16⟩
  | .local _ .vmem, ⟨1, _⟩ => ⟨S1088x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1088x1024, .bf16⟩
  | .local _ .vmem, ⟨5, _⟩ => ⟨S1088x1024, .bf16⟩
  | .local _ .vmem, ⟨6, _⟩ => ⟨S1024x1024, .bf16⟩
  | _, _ => ⟨S4x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NeighbourhoodReferenceIdeal.lean ====
abbrev S4x4352x1024 : Shape := ⟨3, ![4, 4352, 1024]⟩
abbrev S1x1024x3072 : Shape := ⟨3, ![1, 1024, 3072]⟩
abbrev S4x4096x1024 : Shape := ⟨3, ![4, 4096, 1024]⟩
abbrev S4x256x1024 : Shape := ⟨3, ![4, 256, 1024]⟩
abbrev S1024x3072 : Shape := ⟨2, ![1024, 3072]⟩
abbrev S4x4096x3072 : Shape := ⟨3, ![4, 4096, 3072]⟩
abbrev S4x256x3072 : Shape := ⟨3, ![4, 256, 3072]⟩
abbrev S4x4352x3072 : Shape := ⟨3, ![4, 4352, 3072]⟩
abbrev S17408x3072 : Shape := ⟨2, ![17408, 3072]⟩

abbrev nBuf : Space → Nat
  | .hbm => 12
  | .vmem => 0
  | .smem => 0
  | _ => 0

abbrev bufTy : (tb : Table) → Fin (tcTables nBuf tb) → BufTy
  | .hbm, ⟨0, _⟩ => ⟨S4x4352x1024, .bf16⟩
  | .hbm, ⟨1, _⟩ => ⟨S1x1024x3072, .f32⟩
  | .hbm, ⟨2, _⟩ => ⟨S4x4352x1024, .f32⟩
  | .hbm, ⟨3, _⟩ => ⟨S4x4096x1024, .f32⟩
  | .hbm, ⟨4, _⟩ => ⟨S4x256x1024, .f32⟩
  | .hbm, ⟨5, _⟩ => ⟨S1024x3072, .f32⟩
  | .hbm, ⟨6, _⟩ => ⟨S4x4096x3072, .f32⟩
  | .hbm, ⟨7, _⟩ => ⟨S1024x3072, .f32⟩
  | .hbm, ⟨8, _⟩ => ⟨S4x256x3072, .f32⟩
  | .hbm, ⟨9, _⟩ => ⟨S4x4352x3072, .f32⟩
  | .hbm, ⟨10, _⟩ => ⟨S17408x3072, .f32⟩
  | .hbm, ⟨11, _⟩ => ⟨S17408x3072, .bf16⟩
  | _, _ => ⟨S4x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Lower.lean ====
abbrev S23552x1152 : Shape := ⟨2, ![23552, 1152]⟩
abbrev S24 : Shape := ⟨1, ![24]⟩
abbrev S4x16x1024x1024 : Shape := ⟨4, ![4, 16, 1024, 1024]⟩
abbrev S_ : Shape := ⟨0, ![]⟩
abbrev S92 : Shape := ⟨1, ![92]⟩
abbrev S1x24 : Shape := ⟨2, ![1, 24]⟩
abbrev S92x1 : Shape := ⟨2, ![92, 1]⟩
abbrev S92x24 : Shape := ⟨2, ![92, 24]⟩
abbrev S1 : Shape := ⟨1, ![1]⟩
abbrev S23552x1024 : Shape := ⟨2, ![23552, 1024]⟩
abbrev S256x1152 : Shape := ⟨2, ![256, 1152]⟩
abbrev S1x1x1024x1024 : Shape := ⟨4, ![1, 1, 1024, 1024]⟩
abbrev S256x1024 : Shape := ⟨2, ![256, 1024]⟩
abbrev S1024x1024 : Shape := ⟨2, ![1024, 1024]⟩
abbrev S256x1 : Shape := ⟨2, ![256, 1]⟩

abbrev nBuf : Space → Nat
  | .hbm => 94
  | .vmem => 13
  | .smem => 2
  | _ => 0

abbrev bufTy : (tb : Table) → Fin (tcTables nBuf tb) → BufTy
  | .hbm, ⟨0, _⟩ => ⟨S23552x1152, .f32⟩
  | .hbm, ⟨1, _⟩ => ⟨S24, .i32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S24, .i32⟩
  | .hbm, ⟨6, _⟩ => ⟨S_, .i32⟩
  | .hbm, ⟨7, _⟩ => ⟨S24, .i32⟩
  | .hbm, ⟨8, _⟩ => ⟨S24, .i32⟩
  | .hbm, ⟨9, _⟩ => ⟨S_, .i32⟩
  | .hbm, ⟨10, _⟩ => ⟨S24, .i32⟩
  | .hbm, ⟨11, _⟩ => ⟨S24, .i32⟩
  | .hbm, ⟨12, _⟩ => ⟨S_, .i32⟩
  | .hbm, ⟨13, _⟩ => ⟨S_, .i32⟩
  | .hbm, ⟨14, _⟩ => ⟨S24, .i32⟩
  | .hbm, ⟨15, _⟩ => ⟨S24, .i32⟩
  | .hbm, ⟨16, _⟩ => ⟨S24, .i32⟩
  | .hbm, ⟨17, _⟩ => ⟨S_, .i32⟩
  | .hbm, ⟨18, _⟩ => ⟨S24, .i32⟩
  | .hbm, ⟨19, _⟩ => ⟨S24, .i1⟩
  | .hbm, ⟨20, _⟩ => ⟨S24, .i32⟩
  | .hbm, ⟨21, _⟩ => ⟨S24, .i32⟩
  | .hbm, ⟨22, _⟩ => ⟨S_, .i32⟩
  | .hbm, ⟨23, _⟩ => ⟨S24, .i32⟩
  | .hbm, ⟨24, _⟩ => ⟨S24, .i1⟩
  | .hbm, ⟨25, _⟩ => ⟨S24, .i1⟩
  | .hbm, ⟨26, _⟩ => ⟨S_, .i32⟩
  | .hbm, ⟨27, _⟩ => ⟨S24, .i32⟩
  | .hbm, ⟨28, _⟩ => ⟨S24, .i32⟩
  | .hbm, ⟨29, _⟩ => ⟨S24, .i32⟩
  | .hbm, ⟨30, _⟩ => ⟨S_, .i32⟩
  | .hbm, ⟨31, _⟩ => ⟨S24, .i32⟩
  | .hbm, ⟨32, _⟩ => ⟨S24, .i32⟩
  | .hbm, ⟨33, _⟩ => ⟨S_, .i32⟩
  | .hbm, ⟨34, _⟩ => ⟨S_, .i32⟩
  | .hbm, ⟨35, _⟩ => ⟨S24, .i32⟩
  | .hbm, ⟨36, _⟩ => ⟨S24, .i32⟩
  | .hbm, ⟨37, _⟩ => ⟨S92, .i32⟩
  | .hbm, ⟨38, _⟩ => ⟨S1x24, .i32⟩
  | .hbm, ⟨39, _⟩ => ⟨S_, .i32⟩
  | .hbm, ⟨40, _⟩ => ⟨S92, .i32⟩
  | .hbm, ⟨41, _⟩ => ⟨S92, .i32⟩
  | .hbm, ⟨42, _⟩ => ⟨S92x1, .i32⟩
  | .hbm, ⟨43, _⟩ => ⟨S92x24, .i32⟩
  | .hbm, ⟨44, _⟩ => ⟨S92x24, .i32⟩
  | .hbm, ⟨45, _⟩ => ⟨S92x24, .i1⟩
  | .hbm, ⟨46, _⟩ => ⟨S92x24, .i32⟩
  | .hbm, ⟨47, _⟩ => ⟨S_, .i32⟩
  | .hbm, ⟨48, _⟩ => ⟨S92, .i32⟩
  | .hbm, ⟨49, _⟩ => ⟨S_, .i32⟩
  | .hbm, ⟨50, _⟩ => ⟨S92, .i32⟩
  | .hbm, ⟨51, _⟩ => ⟨S92, .i32⟩
  | .hbm, ⟨52, _⟩ => ⟨S1, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S92, .i32⟩
  | .hbm, ⟨68, _⟩ => ⟨S92, .i1⟩
  | .hbm, ⟨69, _⟩ => ⟨S92x1, .i32⟩
  | .hbm, ⟨70, _⟩ => ⟨S1x24, .i32⟩
  | .hbm, ⟨71, _⟩ => ⟨S92x24, .i32⟩
  | .hbm, ⟨72, _⟩ => ⟨S92x24, .i32⟩
  | .hbm, ⟨73, _⟩ => ⟨S92x24, .i1⟩
  | .hbm, ⟨74, _⟩ => ⟨S1x24, .i32⟩
  | .hbm, ⟨75, _⟩ => ⟨S_, .i32⟩
  | .hbm, ⟨76, _⟩ => ⟨S_, .i32⟩
  | .hbm, ⟨77, _⟩ => ⟨S92x24, .i32⟩
  | .hbm, ⟨78, _⟩ => ⟨S92x24, .i32⟩
  | .hbm, ⟨79, _⟩ => ⟨S92x24, .i32⟩
  | .hbm, ⟨80, _⟩ => ⟨S_, .i32⟩
  | .hbm, ⟨81, _⟩ => ⟨S92, .i32⟩
  | .hbm, ⟨82, _⟩ => ⟨S_, .i32⟩
  | .hbm, ⟨83, _⟩ => ⟨S_, .i32⟩
  | .hbm, ⟨84, _⟩ => ⟨S92, .i32⟩
  | .hbm, ⟨85, _⟩ => ⟨S92, .i1⟩
  | .hbm, ⟨86, _⟩ => ⟨S_, .i32⟩
  | .hbm, ⟨87, _⟩ => ⟨S_, .i32⟩
  | .hbm, ⟨88, _⟩ => ⟨S92, .i32⟩
  | .hbm, ⟨89, _⟩ => ⟨S92, .i32⟩
  | .hbm, ⟨90, _⟩ => ⟨S_, .i32⟩
  | .hbm, ⟨91, _⟩ => ⟨S_, .i32⟩
  | .hbm, ⟨92, _⟩ => ⟨S92, .i32⟩
  | .hbm, ⟨93, _⟩ => ⟨S23552x1024, .f32⟩
  | .local _ .vmem, ⟨0, _⟩ => ⟨S256x1152, .f32⟩
  | .local _ .vmem, ⟨1, _⟩ => ⟨S256x1152, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .smem, ⟨0, _⟩ => ⟨S92, .i32⟩
  | .local _ .smem, ⟨1, _⟩ => ⟨S1, .i32⟩
  | _, _ => ⟨S23552x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_3 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c_4 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_c_6 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_7 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c : Ref sig .tc := ⟨.hbm, 61, rfl⟩
abbrev main_call2_v6 : Ref sig .tc := ⟨.hbm, 62, rfl⟩
abbrev main_call2_v7 : Ref sig .tc := ⟨.hbm, 63, rfl⟩
abbrev main_call2_c_0 : Ref sig .tc := ⟨.hbm, 64, rfl⟩
abbrev main_call2_v8 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_c_8 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v32 : Ref sig .tc := ⟨.hbm, 79, rfl⟩
abbrev main_c_9 : Ref sig .tc := ⟨.hbm, 80, rfl⟩
abbrev main_v33 : Ref sig .tc := ⟨.hbm, 81, rfl⟩
abbrev main_c_10 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_c_11 : Ref sig .tc := ⟨.hbm, 86, rfl⟩
abbrev main_call4_v0 : Ref sig .tc := ⟨.hbm, 87, rfl⟩
abbrev main_call4_v1 : Ref sig .tc := ⟨.hbm, 88, rfl⟩
abbrev main_v37 : Ref sig .tc := ⟨.hbm, 89, rfl⟩
abbrev main_c_12 : Ref sig .tc := ⟨.hbm, 90, rfl⟩
abbrev main_v38 : Ref sig .tc := ⟨.hbm, 91, rfl⟩
abbrev main_call5_v0 : Ref sig .tc := ⟨.hbm, 92, rfl⟩
abbrev main_v41 : Ref sig .tc := ⟨.hbm, 93, rfl⟩
abbrev main_v39 : Ref sig .tc := ⟨.smem, 0, rfl⟩
abbrev main_v40 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![92], ![false]⟩

abbrev pre0 : Pipeline.Prefetch sig := ⟨2, ![main_v39.idx, main_v40.idx], fun | 0 => main_v39.names | 1 => main_v40.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S92.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S92) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S92.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S92) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S92.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S92) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LowerReferenceIdeal.lean ====
abbrev S23552x1152 : Shape := ⟨2, ![23552, 1152]⟩
abbrev S24 : Shape := ⟨1, ![24]⟩
abbrev S4x16x1024x1024 : Shape := ⟨4, ![4, 16, 1024, 1024]⟩
abbrev S_ : Shape := ⟨0, ![]⟩
abbrev S1x24 : Shape := ⟨2, ![1, 24]⟩
abbrev S92 : Shape := ⟨1, ![92]⟩
abbrev S92x1 : Shape := ⟨2, ![92, 1]⟩
abbrev S92x24 : Shape := ⟨2, ![92, 24]⟩
abbrev S92x256 : Shape := ⟨2, ![92, 256]⟩
abbrev S23552 : Shape := ⟨1, ![23552]⟩
abbrev S23552x1024 : Shape := ⟨2, ![23552, 1024]⟩
abbrev S23552x1 : Shape := ⟨2, ![23552, 1]⟩
abbrev S1x16x1024x1024 : Shape := ⟨4, ![1, 16, 1024, 1024]⟩
abbrev S16x1024x1024 : Shape := ⟨3, ![16, 1024, 1024]⟩
abbrev S16x1024x23552 : Shape := ⟨3, ![16, 1024, 23552]⟩
abbrev S16x23552x1024 : Shape := ⟨3, ![16, 23552, 1024]⟩
abbrev S1x23552 : Shape := ⟨2, ![1, 23552]⟩
abbrev S16 : Shape := ⟨1, ![16]⟩
abbrev S16x1 : Shape := ⟨2, ![16, 1]⟩
abbrev S16x23552 : Shape := ⟨2, ![16, 23552]⟩
abbrev S16x23552x1 : Shape := ⟨3, ![16, 23552, 1]⟩
abbrev S1 : Shape := ⟨1, ![1]⟩

abbrev nBuf : Space → Nat
  | .hbm => 122
  | .vmem => 0
  | .smem => 0
  | _ => 0

abbrev bufTy : (tb : Table) → Fin (tcTables nBuf tb) → BufTy
  | .hbm, ⟨0, _⟩ => ⟨S23552x1152, .f32⟩
  | .hbm, ⟨1, _⟩ => ⟨S24, .i32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S24, .i32⟩
  | .hbm, ⟨6, _⟩ => ⟨S_, .i32⟩
  | .hbm, ⟨7, _⟩ => ⟨S24, .i32⟩
  | .hbm, ⟨8, _⟩ => ⟨S24, .i32⟩
  | .hbm, ⟨9, _⟩ => ⟨S_, .i32⟩
  | .hbm, ⟨10, _⟩ => ⟨S24, .i32⟩
  | .hbm, ⟨11, _⟩ => ⟨S24, .i32⟩
  | .hbm, ⟨12, _⟩ => ⟨S_, .i32⟩
  | .hbm, ⟨13, _⟩ => ⟨S_, .i32⟩
  | .hbm, ⟨14, _⟩ => ⟨S24, .i32⟩
  | .hbm, ⟨15, _⟩ => ⟨S24, .i32⟩
  | .hbm, ⟨16, _⟩ => ⟨S24, .i32⟩
  | .hbm, ⟨17, _⟩ => ⟨S_, .i32⟩
  | .hbm, ⟨18, _⟩ => ⟨S24, .i32⟩
  | .hbm, ⟨19, _⟩ => ⟨S24, .i1⟩
  | .hbm, ⟨20, _⟩ => ⟨S24, .i32⟩
  | .hbm, ⟨21, _⟩ => ⟨S24, .i32⟩
  | .hbm, ⟨22, _⟩ => ⟨S_, .i32⟩
  | .hbm, ⟨23, _⟩ => ⟨S24, .i32⟩
  | .hbm, ⟨24, _⟩ => ⟨S24, .i1⟩
  | .hbm, ⟨25, _⟩ => ⟨S24, .i1⟩
  | .hbm, ⟨26, _⟩ => ⟨S_, .i32⟩
  | .hbm, ⟨27, _⟩ => ⟨S24, .i32⟩
  | .hbm, ⟨28, _⟩ => ⟨S24, .i32⟩
  | .hbm, ⟨29, _⟩ => ⟨S24, .i32⟩
  | .hbm, ⟨30, _⟩ => ⟨S_, .i32⟩
  | .hbm, ⟨31, _⟩ => ⟨S24, .i32⟩
  | .hbm, ⟨32, _⟩ => ⟨S24, .i32⟩
  | .hbm, ⟨33, _⟩ => ⟨S_, .i32⟩
  | .hbm, ⟨34, _⟩ => ⟨S_, .i32⟩
  | .hbm, ⟨35, _⟩ => ⟨S24, .i32⟩
  | .hbm, ⟨36, _⟩ => ⟨S1x24, .i32⟩
  | .hbm, ⟨37, _⟩ => ⟨S92, .i32⟩
  | .hbm, ⟨38, _⟩ => ⟨S_, .i32⟩
  | .hbm, ⟨39, _⟩ => ⟨S92, .i32⟩
  | .hbm, ⟨40, _⟩ => ⟨S92, .i32⟩
  | .hbm, ⟨41, _⟩ => ⟨S92x1, .i32⟩
  | .hbm, ⟨42, _⟩ => ⟨S92x24, .i32⟩
  | .hbm, ⟨43, _⟩ => ⟨S92x24, .i32⟩
  | .hbm, ⟨44, _⟩ => ⟨S92x24, .i1⟩
  | .hbm, ⟨45, _⟩ => ⟨S92x24, .i32⟩
  | .hbm, ⟨46, _⟩ => ⟨S_, .i32⟩
  | .hbm, ⟨47, _⟩ => ⟨S92, .i32⟩
  | .hbm, ⟨48, _⟩ => ⟨S_, .i32⟩
  | .hbm, ⟨49, _⟩ => ⟨S92, .i32⟩
  | .hbm, ⟨50, _⟩ => ⟨S92, .i32⟩
  | .hbm, ⟨51, _⟩ => ⟨S92x1, .i32⟩
  | .hbm, ⟨52, _⟩ => ⟨S92, .i32⟩
  | .hbm, ⟨53, _⟩ => ⟨S92x256, .i32⟩
  | .hbm, ⟨54, _⟩ => ⟨S23552, .i32⟩
  | .hbm, ⟨55, _⟩ => ⟨S23552x1024, .f32⟩
  | .hbm, ⟨56, _⟩ => ⟨S23552x1, .f32⟩
  | .hbm, ⟨57, _⟩ => ⟨S23552, .f32⟩
  | .hbm, ⟨58, _⟩ => ⟨S1x16x1024x1024, .f32⟩
  | .hbm, ⟨59, _⟩ => ⟨S16x1024x1024, .f32⟩
  | .hbm, ⟨60, _⟩ => ⟨S16x1024x23552, .f32⟩
  | .hbm, ⟨61, _⟩ => ⟨S16x23552x1024, .f32⟩
  | .hbm, ⟨62, _⟩ => ⟨S16x23552x1024, .f32⟩
  | .hbm, ⟨63, _⟩ => ⟨S16x23552x1024, .f32⟩
  | .hbm, ⟨64, _⟩ => ⟨S_, .f32⟩
  | .hbm, ⟨65, _⟩ => ⟨S16x23552x1024, .f32⟩
  | .hbm, ⟨66, _⟩ => ⟨S16x23552x1024, .f32⟩
  | .hbm, ⟨67, _⟩ => ⟨S_, .f32⟩
  | .hbm, ⟨68, _⟩ => ⟨S16x23552x1024, .f32⟩
  | .hbm, ⟨69, _⟩ => ⟨S16x23552x1024, .f32⟩
  | .hbm, ⟨70, _⟩ => ⟨S16x23552x1024, .f32⟩
  | .hbm, ⟨71, _⟩ => ⟨S1x16x1024x1024, .f32⟩
  | .hbm, ⟨72, _⟩ => ⟨S16x1024x1024, .f32⟩
  | .hbm, ⟨73, _⟩ => ⟨S16x1024x23552, .f32⟩
  | .hbm, ⟨74, _⟩ => ⟨S16x23552x1024, .f32⟩
  | .hbm, ⟨75, _⟩ => ⟨S16x23552x1024, .f32⟩
  | .hbm, ⟨76, _⟩ => ⟨S1x16x1024x1024, .f32⟩
  | .hbm, ⟨77, _⟩ => ⟨S16x1024x1024, .f32⟩
  | .hbm, ⟨78, _⟩ => ⟨S16x23552x1024, .f32⟩
  | .hbm, ⟨79, _⟩ => ⟨S1x23552, .i32⟩
  | .hbm, ⟨80, _⟩ => ⟨S16, .i32⟩
  | .hbm, ⟨81, _⟩ => ⟨S16x1, .i32⟩
  | .hbm, ⟨82, _⟩ => ⟨S16x23552, .i32⟩
  | .hbm, ⟨83, _⟩ => ⟨S16x23552, .i32⟩
  | .hbm, ⟨84, _⟩ => ⟨S16x23552, .i1⟩
  | .hbm, ⟨85, _⟩ => ⟨S16x23552x1, .i1⟩
  | .hbm, ⟨86, _⟩ => ⟨S_, .f32⟩
  | .hbm, ⟨87, _⟩ => ⟨S_, .f32⟩
  | .hbm, ⟨88, _⟩ => ⟨S16x23552x1024, .i1⟩
  | .hbm, ⟨89, _⟩ => ⟨S16x23552x1024, .f32⟩
  | .hbm, ⟨90, _⟩ => ⟨S16x23552x1024, .f32⟩
  | .hbm, ⟨91, _⟩ => ⟨S_, .f32⟩
  | .hbm, ⟨92, _⟩ => ⟨S23552x1024, .f32⟩
  | .hbm, ⟨93, _⟩ => ⟨S92, .i32⟩
  | .hbm, ⟨94, _⟩ => ⟨S1, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i1⟩
  | .hbm, ⟨102, _⟩ => ⟨S_, .i32⟩
  | .hbm, ⟨103, _⟩ => ⟨S_, .i32⟩
  | .hbm, ⟨104, _⟩ => ⟨S_, .i1⟩
  | .hbm, ⟨105, _⟩ => ⟨S_, .i1⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S92, .i32⟩
  | .hbm, ⟨110, _⟩ => ⟨S92, .i1⟩
  | .hbm, ⟨111, _⟩ => ⟨S92x256, .i1⟩
  | .hbm, ⟨112, _⟩ => ⟨S23552, .i1⟩
  | .hbm, ⟨113, _⟩ => ⟨S23552x1, .i1⟩
  | .hbm, ⟨114, _⟩ => ⟨S23552x1, .f32⟩
  | .hbm, ⟨115, _⟩ => ⟨S23552x1024, .f32⟩
  | .hbm, ⟨116, _⟩ => ⟨S23552x1024, .f32⟩
  | .hbm, ⟨117, _⟩ => ⟨S_, .f32⟩
  | .hbm, ⟨118, _⟩ => ⟨S_, .f32⟩
  | .hbm, ⟨119, _⟩ => ⟨S23552x1024, .i1⟩
  | .hbm, ⟨120, _⟩ => ⟨S23552x1024, .f32⟩
  | .hbm, ⟨121, _⟩ => ⟨S23552x1024, .f32⟩
  | _, _ => ⟨S23552x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_3 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_4 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_5 : Ref sig .tc := ⟨.hbm, 46, rfl⟩
abbrev main_v17 : Ref sig .tc := ⟨.hbm, 47, rfl⟩
abbrev main_c_6 : Ref sig .tc := ⟨.hbm, 48, rfl⟩
abbrev main_v18 : Ref sig .tc := ⟨.hbm, 49, rfl⟩
abbrev main_v19 : Ref sig .tc := ⟨.hbm, 50, rfl⟩
abbrev main_call2_v0 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst : Ref sig .tc := ⟨.hbm, 64, rfl⟩
abbrev main_v32 : Ref sig .tc := ⟨.hbm, 65, rfl⟩
abbrev main_v33 : Ref sig .tc := ⟨.hbm, 66, rfl⟩
abbrev main_cst_7 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_8 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_v52 : Ref sig .tc := ⟨.hbm, 90, rfl⟩
abbrev main_cst_9 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_c_10 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_call4_v5 : Ref sig .tc := ⟨.hbm, 102, rfl⟩
abbrev main_call4_c : Ref sig .tc := ⟨.hbm, 103, rfl⟩
abbrev main_call4_v6 : Ref sig .tc := ⟨.hbm, 104, rfl⟩
abbrev main_call4_v7 : Ref sig .tc := ⟨.hbm, 105, rfl⟩
abbrev main_call4_c_0 : Ref sig .tc := ⟨.hbm, 106, rfl⟩
abbrev main_call4_v8 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_cst_11 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v66 : Ref sig .tc := ⟨.hbm, 121, rfl⟩

abbrev nD : Nat := 1
abbrev τ : Topo := Topo.v7x

variable {F : FTy → Type} [FloatOps F]
-- ==== Proof.Recurrence.lean ====
/-
The retention recurrence over the reals, token by token, and the chunkwise form of it over the extended reals.

`state γ k v n` is the state after `n` tokens, for one key channel family `k` and one value channel `v`; `outAt` is what token
`p` reads from the state that includes it. `state_chunk` and `outAt_chunk` say that a chunk of any length `C`, whose tokens may be
stored in any order (`σ`), gives the same numbers by the masked product of queries, keys and values plus the decayed state.
-/
module

public import Idealize.ShloMosaic.PureOps.Ideal
public import Idealize.ShloMosaic.Lib.Pointwise

@[expose] public section

noncomputable section

namespace Cert.Retention

open scoped BigOperators

variable {D C : ℕ}

/-- The state after `n` tokens, at key channel `κ`: every token decays it by `γ` and adds its key times its value. -/
def state (γ : ℝ) (k : ℕ → ℕ → ℝ) (v : ℕ → ℝ) : ℕ → ℕ → ℝ
  | 0, _ => 0
  | n + 1, κ => γ * state γ k v n κ + k n κ * v n

/-- What token `p` reads: its query against the state that includes it. -/
def outAt (D : ℕ) (γ : ℝ) (q k : ℕ → ℕ → ℝ) (v : ℕ → ℝ) (p : ℕ) : ℝ := ∑ κ : Fin D, q p κ * state γ k v (p + 1) κ

/-- After `n` further tokens the state is the decayed state plus each token's share, decayed by the tokens after it. -/
theorem state_add (γ : ℝ) (k : ℕ → ℕ → ℝ) (v : ℕ → ℝ) (N : ℕ) (κ : ℕ) : ∀ n : ℕ,
    state γ k v (N + n) κ = γ ^ n * state γ k v N κ + ∑ j ∈ Finset.range n, γ ^ (n - 1 - j) * k (N + j) κ * v (N + j)
  | 0 => by simp
  | n + 1 => by
    rw [← Nat.add_assoc, state, state_add γ k v N κ n, Finset.sum_range_succ, mul_add, Finset.mul_sum, pow_succ]
    have h : ∀ j ∈ Finset.range n, γ * (γ ^ (n - 1 - j) * k (N + j) κ * v (N + j))
        = γ ^ (n + 1 - 1 - j) * k (N + j) κ * v (N + j) := fun j hj => by
      have hj' := Finset.mem_range.1 hj
      have e : n + 1 - 1 - j = (n - 1 - j) + 1 := by omega
      rw [e, pow_succ]; ring
    rw [Finset.sum_congr rfl h]
    simp
    ring

/-- A finite sum of reals, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight of token `j` for token `i` of a chunk: `γ ^ (i - j)` for the tokens up to `i`, nothing after. -/
def weight (γ : ℝ) (i j : ℕ) : ℝ := if j ≤ i then γ ^ (i - j) else 0

theorem state_chunk_real (γ : ℝ) (k : ℕ → ℕ → ℝ) (v : ℕ → ℝ) (N : ℕ) (κ : ℕ) (σ : Fin C ≃ Fin C) :
    state γ k v (N + C) κ = state γ k v N κ * γ ^ C
      + ∑ j : Fin C, k (N + σ j) κ * γ ^ (C - 1 - (σ j : ℕ)) * v (N + σ j) := by
  rw [state_add, Equiv.sum_comp σ (fun j : Fin C => k (N + j) κ * γ ^ (C - 1 - (j : ℕ)) * v (N + j)), Finset.sum_range]
  rw [mul_comm (γ ^ C)]
  congr 1
  exact Finset.sum_congr rfl fun j _ => by ring

theorem outAt_chunk_real (γ : ℝ) (q k : ℕ → ℕ → ℝ) (v : ℕ → ℝ) (N : ℕ) (σ : Fin C ≃ Fin C) (i : Fin C) :
    outAt D γ q k v (N + i) = ∑ j : Fin C, (∑ κ : Fin D, q (N + i) κ * k (N + σ j) κ) * weight γ i (σ j) * v (N + σ j)
      + ∑ κ : Fin D, q (N + i) κ * γ ^ ((i : ℕ) + 1) * state γ k v N κ := by
  rw [Equiv.sum_comp σ (fun j : Fin C => (∑ κ : Fin D, q (N + i) κ * k (N + j) κ) * weight γ i j * v (N + j)), outAt]
  have hs : ∀ κ : ℕ, ∑ j ∈ Finset.range ((i : ℕ) + 1), γ ^ ((i : ℕ) + 1 - 1 - j) * k (N + j) κ * v (N + j)
      = ∑ j : Fin C, weight γ i j * k (N + j) κ * v (N + j) := fun κ => by
    rw [← Finset.sum_range (fun j => weight γ i j * k (N + j) κ * v (N + j))]
    have hsub : Finset.range ((i : ℕ) + 1) ⊆ Finset.range C := Finset.range_subset_range.2 i.isLt
    rw [← Finset.sum_subset hsub (f := fun j => weight γ i j * k (N + j) κ * v (N + j))]
    · refine Finset.sum_congr rfl fun j hj => ?_
      have hj' : j ≤ (i : ℕ) := Nat.lt_succ_iff.1 (Finset.mem_range.1 hj)
      rw [weight, if_pos hj', Nat.add_sub_cancel]
    · intro j _ hj
      have hj' : ¬ j ≤ (i : ℕ) := fun h => hj (Finset.mem_range.2 (Nat.lt_succ_iff.2 h))
      rw [weight, if_neg hj']; ring
  simp only [Nat.add_assoc, state_add γ k v N _ ((i : ℕ) + 1), hs, mul_add, Finset.sum_add_distrib]
  rw [add_comm]
  congr 1
  · simp only [Finset.mul_sum, Finset.sum_mul]
    rw [Finset.sum_comm]
    exact Finset.sum_congr rfl fun j _ => Finset.sum_congr rfl fun κ _ => by ring
  · exact Finset.sum_congr rfl fun κ _ => by ring

/-- One chunk's new state, over the extended reals: the decayed state plus the keys, weighed by what decays them to the end of the
    chunk, times the values. -/
theorem state_chunk (γ : ℝ) (k : ℕ → ℕ → ℝ) (v : ℕ → ℝ) (N : ℕ) (κ : ℕ) (σ : Fin C ≃ Fin C)
    {T B : EReal} {K W V : Fin C → EReal} (hT : T = (state γ k v N κ : ℝ)) (hB : B = ((γ ^ C : ℝ) : EReal))
    (hK : ∀ j, K j = (k (N + σ j) κ : ℝ)) (hW : ∀ j, W j = ((γ ^ (C - 1 - (σ j : ℕ)) : ℝ) : EReal))
    (hV : ∀ j, V j = (v (N + σ j) : ℝ)) :
    T * B + ∑ j, K j * W j * V j = (state γ k v (N + C) κ : ℝ) := by
  simp only [hT, hB, hK, hW, hV, state_chunk_real γ k v N κ σ, EReal.coe_add, EReal.coe_mul, coe_sum]

/-- One chunk's output at its token `i`, over the extended reals: the masked products of queries and keys times the values, plus
    the decayed query against the state. -/
theorem outAt_chunk (γ : ℝ) (q k : ℕ → ℕ → ℝ) (v : ℕ → ℝ) (N : ℕ) (σ : Fin C ≃ Fin C) (i : Fin C)
    {B : EReal} {Q T : Fin D → EReal} {A V : Fin C → EReal} {K : Fin C → Fin D → EReal}
    (hQ : ∀ κ : Fin D, Q κ = (q (N + i) κ : ℝ)) (hT : ∀ κ : Fin D, T κ = (state γ k v N κ : ℝ)) (hB : B = ((γ ^ ((i : ℕ) + 1) : ℝ) : EReal))
    (hK : ∀ j (κ : Fin D), K j κ = (k (N + σ j) κ : ℝ)) (hA : ∀ j, A j = (weight γ i (σ j) : ℝ)) (hV : ∀ j, V j = (v (N + σ j) : ℝ)) :
    ∑ j, (∑ κ : Fin D, Q κ * K j κ) * A j * V j + ∑ κ : Fin D, Q κ * B * T κ = (outAt D γ q k v (N + i) : ℝ) := by
  simp only [hQ, hT, hB, hK, hA, hV, outAt_chunk_real γ q k v N σ i, EReal.coe_add, EReal.coe_mul, coe_sum]

end Cert.Retention

end
-- ==== Proof.Decay.lean ====
/-
The decay of a head: `log_sigmoid` of its logit, and the powers of the decay that the tables hold.

The logarithm of the decay is never `⊤`, whatever the logit; so `exp (n · log γ)` is `γ ^ n` for every number `n` of tokens, also
where the logarithm is `⊥` and the decay `0`. No condition on the logits is needed.
-/
module

public import Idealize.ShloMosaic.PureOps.Ideal
public import Idealize.ShloMosaic.Lib.Pointwise

@[expose] public section

noncomputable section

namespace Cert.Retention

open Idealize.ShloMosaic

/-- `log_sigmoid x`, written out as both programs compute it. -/
def logSigmoid (x : EReal) : EReal := -(max (-x) 0 + Ideal.log1p (Ideal.exp (-(max x (-x)))))

/-- The decay per token of a head whose logit is `x`, a real. -/
def decay (x : EReal) : ℝ := (Ideal.exp (logSigmoid x)).toReal

theorem exp_bot : Ideal.exp ⊥ = 0 := rfl

theorem exp_coe (r : ℝ) : Ideal.exp (r : EReal) = ((Real.exp r : ℝ) : EReal) := rfl

theorem log1p_coe (r : ℝ) (h : 0 ≤ r) : Ideal.log1p (r : EReal) = ((Real.log (1 + r) : ℝ) : EReal) := by
  have e : (1 : EReal) + (r : EReal) = ((1 + r : ℝ) : EReal) := by rw [EReal.coe_add, EReal.coe_one]
  rw [Ideal.log1p, e]
  exact if_neg (not_le.2 (by positivity))

theorem log1p_zero : Ideal.log1p 0 = 0 := by
  simpa using log1p_coe 0 le_rfl

theorem logSigmoid_ne_top (x : EReal) : logSigmoid x ≠ ⊤ := by
  induction x with
  | bot =>
    rw [logSigmoid, show max (-(⊥ : EReal)) 0 = ⊤ by simp, show -(max (⊥ : EReal) (-⊥)) = ⊥ by simp, exp_bot,
      log1p_zero]
    simp
  | top =>
    rw [logSigmoid, show -(max (⊤ : EReal) (-⊤)) = ⊥ by simp, exp_bot, log1p_zero]
    simp
  | coe r =>
    have h1 : max (-(r : EReal)) 0 = ((max (-r) 0 : ℝ) : EReal) := by
      rw [← EReal.coe_neg, ← EReal.coe_zero]; exact (EReal.coe_strictMono.monotone.map_max).symm
    have h2 : -(max (r : EReal) (-(r : EReal))) = ((-(max r (-r)) : ℝ) : EReal) := by
      rw [← EReal.coe_neg, EReal.coe_neg]; exact congrArg _ (EReal.coe_strictMono.monotone.map_max).symm
    rw [logSigmoid, h1, h2, exp_coe, log1p_coe _ (Real.exp_pos _).le, ← EReal.coe_add, ← EReal.coe_neg]
    exact EReal.coe_ne_top _

/-- `exp (n · log γ) = γ ^ n`, for the logarithm of a decay. -/
theorem exp_mul_logSigmoid (x : EReal) (n : ℕ) :
    Ideal.exp (((n : ℝ) : EReal) * logSigmoid x) = ((decay x ^ n : ℝ) : EReal) := by
  have ht := logSigmoid_ne_top x
  rw [decay]
  generalize logSigmoid x = y at ht ⊢
  induction y with
  | bot =>
    rw [exp_bot, EReal.toReal_zero]
    rcases Nat.eq_zero_or_pos n with rfl | hn
    · rw [show (((0 : ℕ) : ℝ) : EReal) * ⊥ = ((0 : ℝ) : EReal) by simp, exp_coe, Real.exp_zero, pow_zero]
    · rw [EReal.coe_mul_bot_of_pos (by exact_mod_cast hn), zero_pow hn.ne', exp_bot, EReal.coe_zero]
  | top => exact absurd rfl ht
  | coe r =>
    rw [← EReal.coe_mul, exp_coe, exp_coe, EReal.toReal_coe, Real.exp_nat_mul]

end Cert.Retention

end
-- ==== Proof.Tokens.lean ====
/-
The retention of the argument arrays, as the numbers both programs compute.

`rowOf d p` is the array row of the token that direction `d` scans at position `p`: the forward scan (direction 0) reads the 256
context tokens, which the array keeps last, and then the latents; the backward scan reads the rows from the last to the first.
`stateOf` and `outOf` are the recurrence of Recurrence.lean on the tokens in that order. Coordinates are plain numbers here.
-/
module

public import proofs.«01_k».proof.Proof.Recurrence
public import proofs.«01_k».proof.Proof.Decay

@[expose] public section

noncomputable section

namespace Cert.Retention

open Idealize.ShloMosaic

/-- The projected tokens: batch, row, column. -/
abbrev Tokens : Shape := ⟨3, ![4, 4352, 6144]⟩

/-- The logits: direction, head. -/
abbrev Heads : Shape := ⟨2, ![2, 4]⟩

variable (X : Tokens.Idx → EReal) (L : Heads.Idx → EReal)

/-- The real number at a place of the token array (nothing outside it). -/
def tok (b r c : ℕ) : ℝ :=
  if h : b < 4 ∧ r < 4352 ∧ c < 6144 then (X (ix3 ⟨b, h.1⟩ ⟨r, h.2.1⟩ ⟨c, h.2.2⟩)).toReal else 0

/-- The decay of a head in a direction. -/
def gam (d h : ℕ) : ℝ := if hh : d < 2 ∧ h < 4 then decay (L (ix2 ⟨d, hh.1⟩ ⟨h, hh.2⟩)) else 0

/-- The array row of the token at a position of a direction's scan. -/
def rowOf (d p : ℕ) : ℕ := if d = 0 then (if p < 256 then 4096 + p else p - 256) else 4351 - p

theorem rowOf_zero (p : ℕ) : rowOf 0 p = if p < 256 then 4096 + p else p - 256 := rfl
theorem rowOf_one (p : ℕ) : rowOf 1 p = 4351 - p := rfl

/-- The state of a head after `n` tokens of a direction's scan. -/
def stateOf (d b h κ ν n : ℕ) : ℝ :=
  state (gam L d h) (fun p c => tok X b (rowOf d p) (1024 + (256 * h + c))) (fun p => tok X b (rowOf d p) (2048 + (512 * h + ν))) n κ

/-- What a direction's scan reads at position `p`, at value channel `ν` of a head. -/
def outOf (d b h ν p : ℕ) : ℝ :=
  outAt 256 (gam L d h) (fun p c => tok X b (rowOf d p) (256 * h + c)) (fun p c => tok X b (rowOf d p) (1024 + (256 * h + c)))
    (fun p => tok X b (rowOf d p) (2048 + (512 * h + ν))) p

/-- The queries, keys and values are real numbers. -/
def RealTokens : Prop := ∀ j : Tokens.Idx, (j 2 : ℕ) < 4096 → X j ≠ ⊤ ∧ X j ≠ ⊥

variable {X L}

/-- A query, key or value is its real number. -/
theorem RealTokens.eq_tok (hX : RealTokens X) (j : Tokens.Idx) {b r c : ℕ} (hb : (j 0 : ℕ) = b) (hr : (j 1 : ℕ) = r)
    (hc : (j 2 : ℕ) = c) (hlt : c < 4096) : X j = (tok X b r c : ℝ) := by
  subst hb hr hc
  have h : (j 0 : ℕ) < 4 ∧ (j 1 : ℕ) < 4352 ∧ (j 2 : ℕ) < 6144 := ⟨(j 0).isLt, (j 1).isLt, (j 2).isLt⟩
  rw [tok, dif_pos h, EReal.coe_toReal] <;> rw [show ix3 (⟨(j 0 : ℕ), h.1⟩ : Fin 4) (⟨(j 1 : ℕ), h.2.1⟩ : Fin 4352)
    (⟨(j 2 : ℕ), h.2.2⟩ : Fin 6144) = j from (eq_ix3 j).symm]
  · exact (hX j hlt).1
  · exact (hX j hlt).2

/-- A table entry `exp (x · log γ)` at a whole number `x` of tokens is that power of the decay. -/
theorem exp_eq_pow (j : Heads.Idx) {d h n : ℕ} (hd : (j 0 : ℕ) = d) (hh : (j 1 : ℕ) = h) {x : EReal} (hx : x = ((n : ℝ) : EReal)) :
    Ideal.exp (x * logSigmoid (L j)) = ((gam L d h ^ n : ℝ) : EReal) := by
  subst hd hh
  have hlt : (j 0 : ℕ) < 2 ∧ (j 1 : ℕ) < 4 := ⟨(j 0).isLt, (j 1).isLt⟩
  rw [hx, exp_mul_logSigmoid, gam, dif_pos hlt,
    show ix2 (⟨(j 0 : ℕ), hlt.1⟩ : Fin 2) (⟨(j 1 : ℕ), hlt.2⟩ : Fin 4) = j from (eq_ix2 j).symm]

/-- A counter's word, below 2^31, as a number. -/
theorem sitofp_ofNat {n : ℕ} (h : n < 2 ^ 31) :
    (FloatOps.sitofp FTy.f32 (BitVec.ofNat 32 n) : Ideal .f32) = ((n : ℝ) : EReal) := by
  show (((BitVec.ofNat 32 n).toInt : ℝ) : EReal) = _
  rw [BitVec.toInt_ofNat', Int.bmod_def, if_pos (by omega), Int.emod_eq_of_lt (by omega) (by omega)]
  norm_num

theorem ofBits_127 : Ideal.ofBits .f32 0x42FE0000#32 = (((127 : ℕ) : ℝ) : EReal) := by
  simp [Ideal.ofBits, Ideal.ieee, -EReal.coe_mul]; norm_num
theorem ofBits_128 : Ideal.ofBits .f32 0x43000000#32 = (((128 : ℕ) : ℝ) : EReal) := by
  simp [Ideal.ofBits, Ideal.ieee, -EReal.coe_mul]; norm_num
theorem ofBits_255 : Ideal.ofBits .f32 0x437F0000#32 = (((255 : ℕ) : ℝ) : EReal) := by
  simp [Ideal.ofBits, Ideal.ieee, -EReal.coe_mul]; norm_num
theorem ofBits_256 : Ideal.ofBits .f32 0x43800000#32 = (((256 : ℕ) : ℝ) : EReal) := by
  simp [Ideal.ofBits, Ideal.ieee, -EReal.coe_mul]; norm_num

/-- A difference of whole numbers, the larger first. -/
theorem sub_nat {a b : ℕ} (h : b ≤ a) : ((a : ℝ) : EReal) - ((b : ℝ) : EReal) = (((a - b : ℕ) : ℝ) : EReal) := by
  rw [← EReal.coe_sub, Nat.cast_sub h]

/-- A whole number's successor. -/
theorem add_one_nat (a : ℕ) : ((a : ℝ) : EReal) + 1 = (((a + 1 : ℕ) : ℝ) : EReal) := by
  push_cast; rfl

/-- The decay between two tokens of a chunk, masked to the tokens before: the entry the tables compute. -/
theorem masked_eq_weight (j : Heads.Idx) {d h : ℕ} (hd : (j 0 : ℕ) = d) (hh : (j 1 : ℕ) = h) (a b : ℕ) :
    (if 0 ≤ ((a : ℝ) : EReal) - ((b : ℝ) : EReal) then
      Ideal.exp (max (((a : ℝ) : EReal) - ((b : ℝ) : EReal)) 0 * logSigmoid (L j)) else 0) = (weight (gam L d h) a b : ℝ) := by
  by_cases hab : b ≤ a
  · have h0 : (0 : EReal) ≤ (((a - b : ℕ) : ℝ) : EReal) := by exact_mod_cast Nat.cast_nonneg (α := ℝ) (a - b)
    rw [sub_nat hab, if_pos h0, max_eq_left h0, exp_eq_pow j hd hh rfl, weight, if_pos hab]
  · have h0 : ¬ (0 : EReal) ≤ ((a : ℝ) : EReal) - ((b : ℝ) : EReal) := by
      rw [← EReal.coe_sub]
      have : (a : ℝ) < b := by exact_mod_cast Nat.lt_of_not_le hab
      exact_mod_cast not_le.mpr (sub_neg.mpr this)
    rw [if_neg h0, weight, if_neg hab, EReal.coe_zero]

/-- The same, for a table of the backward scan, whose positions in a chunk run down from `c`. -/
theorem masked_eq_weight_rev (j : Heads.Idx) {d h : ℕ} (hd : (j 0 : ℕ) = d) (hh : (j 1 : ℕ) = h) {a b c : ℕ} (ha : a ≤ c) (hb : b ≤ c) :
    (if ((a : ℝ) : EReal) - ((b : ℝ) : EReal) ≤ 0 then
      Ideal.exp (max (-(((a : ℝ) : EReal) - ((b : ℝ) : EReal))) 0 * logSigmoid (L j)) else 0)
      = (weight (gam L d h) (c - a) (c - b) : ℝ) := by
  have hr : -(((a : ℝ) : EReal) - ((b : ℝ) : EReal)) = (((c - a : ℕ) : ℝ) : EReal) - (((c - b : ℕ) : ℝ) : EReal) := by
    rw [← EReal.coe_sub, ← EReal.coe_sub, ← EReal.coe_neg, Nat.cast_sub ha, Nat.cast_sub hb]
    congr 1; ring
  have hc : (((a : ℝ) : EReal) - ((b : ℝ) : EReal) ≤ 0) = (0 ≤ (((c - a : ℕ) : ℝ) : EReal) - (((c - b : ℕ) : ℝ) : EReal)) := by
    rw [← hr, EReal.neg_nonneg]
  simp only [hr, hc]
  exact masked_eq_weight j hd hh _ _

/-- The position at which a direction's scan reads an array row. -/
def posOf (d r : ℕ) : ℕ := if d = 0 then (if r < 4096 then r + 256 else r - 4096) else 4351 - r

theorem posOf_zero (r : ℕ) : posOf 0 r = if r < 4096 then r + 256 else r - 4096 := rfl
theorem posOf_one (r : ℕ) : posOf 1 r = 4351 - r := rfl

/-- A retention result at an index: what direction `d`'s scan reads at the row, at the column's head and value channel. -/
def result (X : Tokens.Idx → EReal) (L : Heads.Idx → EReal) (d b r c : ℕ) : ℝ := outOf X L d b (c / 512) (c % 512) (posOf d r)

end Cert.Retention

end
-- ==== Proof.KernelTables.lean ====
/-
The kernel's four decay tables, at an index.

Direction 0 scans forward, direction 1 backward. `flip d i` is the place of row `i` of a chunk in the order direction `d` scans it.
-/
module

public import proofs.«01_k».proof.Proof.Gen.KernelIdeal.Value
public import proofs.«01_k».proof.Proof.Tokens
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.Retention

/-- The place of row `i` of a chunk in the order of the scan. -/
def flip (d i : ℕ) : ℕ := if d = 0 then i else 255 - i

theorem flip_zero (i : ℕ) : flip 0 i = i := rfl
theorem flip_one (i : ℕ) : flip 1 i = 255 - i := rfl

/-- The rows of a chunk, in the order of the scan. -/
def order (d : ℕ) : Fin 256 ≃ Fin 256 := if d = 0 then Equiv.refl _ else Fin.revPerm

theorem order_val (d : ℕ) (i : Fin 256) : (order d i : ℕ) = flip d i := by
  unfold order flip
  split_ifs
  · rfl
  · show 256 - (i.val + 1) = _
    omega

/-- The log-sigmoid as the kernel's program spells it, past its test for a non-number. -/
theorem logSigmoid_spelled (x : EReal) :
    -(max (-x) 0 + Ideal.log1p (Ideal.exp (-(FloatOps.absf (F := Ideal) (φ := .f32) (-x))))) = logSigmoid x := by
  show -(max (-x) 0 + Ideal.log1p (Ideal.exp (-(max (-x) (-(-x)))))) = _
  rw [neg_neg, max_comm (-x) x, logSigmoid]

variable (m : (ℓ : Loc nD τ sig) → Buf (Elt Ideal) ℓ)

/-- The logits of the decays. -/
abbrev logits (c : Dev nD) : Heads.Idx → EReal := m ((c : Thread nD τ).loc main_arg1)

/-- The projected tokens. -/
abbrev tokens (c : Dev nD) : Tokens.Idx → EReal := m ((c : Thread nD τ).loc main_arg0)

/-- A head's decay over a whole chunk. -/
theorem cdec_eq (c : Dev nD) (i : S8.Idx) {d h : ℕ} (hi : (i 0 : ℕ) = 4 * d + h) (hh : h < 4) :
    V m c main_v80 i = ((gam (logits m c) d h ^ 256 : ℝ) : EReal) := by
  unfold V
  after_reads_at
  idx_vars i
  simp only [ne_eq, not_true_eq_false, ↓reduceIte, logSigmoid_spelled, ofBits_256]
  refine exp_eq_pow (L := logits m c) _ ?_ ?_ rfl
  · show i0.val / 4 = d
    have hi : i0.val = 4 * d + h := hi
    omega
  · show i0.val % 4 = h
    have hi : i0.val = 4 * d + h := hi
    omega

/-- The decay of the state as a row of a chunk reads it. -/
theorem qdec_eq (c : Dev nD) (i : S2x4x256x1.Idx) {d h a : ℕ} (hd : (i 0 : ℕ) = d) (hh : (i 1 : ℕ) = h) (ha : (i 2 : ℕ) = a) :
    V m c main_v81 i = ((gam (logits m c) d h ^ (flip d a + 1) : ℝ) : EReal) := by
  unfold V
  after_reads_at
  after_reads_at
  idx_vars i
  have b0 : i0.val < 2 := i0.isLt
  have b2 : i2.val < 256 := i2.isLt
  rw [sitofp_ofNat (show i2.val < 2 ^ 31 by omega)]
  simp only [ne_eq, not_true_eq_false, ↓reduceIte, logSigmoid_spelled, ofBits_256, add_one_nat, sub_nat b2.le]
  obtain rfl : i2.val = a := ha
  obtain rfl : i1.val = h := hh
  split_ifs with h0
  · obtain rfl : 0 = d := by rw [← hd]; show 0 = i0.val; omega
    exact exp_eq_pow (L := logits m c) _ rfl rfl rfl
  · obtain rfl : 1 = d := by rw [← hd]; show 1 = i0.val; omega
    rw [show flip 1 i2.val + 1 = 256 - i2.val by rw [flip_one]; omega]
    exact exp_eq_pow (L := logits m c) _ rfl rfl rfl

/-- The decay of a row's key and value to the end of the chunk. -/
theorem kdec_eq (c : Dev nD) (i : S2x4x256x1.Idx) {d h a : ℕ} (hd : (i 0 : ℕ) = d) (hh : (i 1 : ℕ) = h) (ha : (i 2 : ℕ) = a) :
    V m c main_v82 i = ((gam (logits m c) d h ^ (255 - flip d a) : ℝ) : EReal) := by
  unfold V
  after_reads_at
  after_reads_at
  idx_vars i
  have b0 : i0.val < 2 := i0.isLt
  have b2 : i2.val < 256 := i2.isLt
  rw [sitofp_ofNat (show i2.val < 2 ^ 31 by omega)]
  simp only [ne_eq, not_true_eq_false, ↓reduceIte, logSigmoid_spelled, ofBits_255, sub_nat (Nat.le_sub_one_of_lt b2)]
  obtain rfl : i2.val = a := ha
  obtain rfl : i1.val = h := hh
  split_ifs with h0
  · obtain rfl : 0 = d := by rw [← hd]; show 0 = i0.val; omega
    exact exp_eq_pow (L := logits m c) _ rfl rfl rfl
  · obtain rfl : 1 = d := by rw [← hd]; show 1 = i0.val; omega
    rw [show 255 - flip 1 i2.val = i2.val by rw [flip_one]; omega]
    exact exp_eq_pow (L := logits m c) _ rfl rfl rfl

/-- The decays between the rows of a chunk. -/
theorem dmat_eq (c : Dev nD) (i : S2x4x256x256.Idx) {d h a b : ℕ} (hd : (i 0 : ℕ) = d) (hh : (i 1 : ℕ) = h) (ha : (i 2 : ℕ) = a)
    (hb : (i 3 : ℕ) = b) :
    V m c main_v35 i = ((weight (gam (logits m c) d h) (flip d a) (flip d b) : ℝ) : EReal) := by
  unfold V
  after_reads_at
  idx_vars i
  have b0 : i0.val < 2 := i0.isLt
  have b2 : i2.val < 256 := i2.isLt
  have b3 : i3.val < 256 := i3.isLt
  simp only [sitofp_ofNat (show i2.val < 2 ^ 31 by omega), sitofp_ofNat (show i3.val < 2 ^ 31 by omega)]
  simp only [ne_eq, not_true_eq_false, ↓reduceIte, logSigmoid_spelled, id, constant_apply, Ideal.ofBits_def, Ideal.ofBits_zero_f32]
  obtain rfl : i2.val = a := ha
  obtain rfl : i3.val = b := hb
  obtain rfl : i1.val = h := hh
  by_cases h0 : i0.val < 1
  · obtain rfl : 0 = d := by rw [← hd]; show 0 = i0.val; omega
    rw [dif_pos h0]
    exact masked_eq_weight (L := logits m c) _ rfl rfl _ _
  · obtain rfl : 1 = d := by rw [← hd]; show 1 = i0.val; omega
    rw [dif_neg h0]
    exact masked_eq_weight_rev (L := logits m c) (c := 255) _ rfl rfl (Nat.le_sub_one_of_lt b2) (Nat.le_sub_one_of_lt b3)

end Cert.KernelIdeal.Val

end
-- ==== Proof.KernelBlocks.lean ====
/-
What each block of a grid point holds.

The grid has 17 points per batch element, one per chunk of 256 tokens. Point `t` takes chunk `t % 17` of batch element `t / 17`, of
both directions' scans.
-/
module

public import proofs.«01_k».proof.Proof.KernelTables

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.Retention

variable (m : (ℓ : Loc nD τ sig) → Buf (Elt Ideal) ℓ)

/-! The blocks' places: the forward scan starts at the context, which the array keeps last; the backward scan runs from the end. -/

theorem idx_fwd : ∀ t : Fin cfg0.N,
    win0_1.index t = ![t.val / 17, if t.val % 17 = 0 then 16 else t.val % 17 - 1, 0]
      ∧ win0_2.index t = ![t.val / 17, if t.val % 17 = 0 then 16 else t.val % 17 - 1, 1]
      ∧ win0_3.index t = ![t.val / 17, if t.val % 17 = 0 then 16 else t.val % 17 - 1, 1]
      ∧ win0_10.index t = ![t.val / 17, if t.val % 17 = 0 then 16 else t.val % 17 - 1, 0] :=
  (by decide +kernel : ∀ t : Fin grid0.N, _)
theorem idx_bwd : ∀ t : Fin cfg0.N,
    win0_4.index t = ![t.val / 17, 16 - t.val % 17, 0]
      ∧ win0_5.index t = ![t.val / 17, 16 - t.val % 17, 1]
      ∧ win0_6.index t = ![t.val / 17, 16 - t.val % 17, 1]
      ∧ win0_11.index t = ![t.val / 17, 16 - t.val % 17, 0] :=
  (by decide +kernel : ∀ t : Fin grid0.N, _)
theorem idx_tables : ∀ t : Fin cfg0.N,
    win0_0.index t = ![0] ∧ win0_7.index t = ![0, 0, 0, 0] ∧ win0_8.index t = ![0, 0, 0, 0] ∧ win0_9.index t = ![0, 0, 0, 0] :=
  (by decide +kernel : ∀ t : Fin grid0.N, _)

variable {m}
variable {c : Dev nD} (hX : RealTokens (tokens m c)) (t : Fin cfg0.N)
include hX

/-! The six blocks of tokens, at an index: row `a` of a block is the token at place `flip d a` of the point's chunk. -/

theorem q_fwd (i : S1x256x1024.Idx) {a k : ℕ} (ha : (i 1 : ℕ) = a) (hk : (i 2 : ℕ) = k) :
    iblk m c 1 t i
      = ((tok (tokens m c) (t.val / 17) (rowOf 0 (256 * (t.val % 17) + flip 0 a)) (k) : ℝ) : EReal) := by
  have hi : (i 0 : ℕ) < 1 := (i 0).isLt
  have ha' : (i 1 : ℕ) < 256 := (i 1).isLt
  have hk' : (i 2 : ℕ) < 1024 := (i 2).isLt
  have hn : t.val % 17 < 17 := Nat.mod_lt _ (by decide)
  blk_simp [iblk, idx_fwd t]
  refine hX.eq_tok _ ?_ ?_ ?_ (by omega)
  all_goals blk_simp [idx_fwd t, rowOf_zero, flip_zero]
  all_goals first | omega | (split_ifs <;> omega)

theorem k_fwd (i : S1x256x1024.Idx) {a k : ℕ} (ha : (i 1 : ℕ) = a) (hk : (i 2 : ℕ) = k) :
    iblk m c 2 t i
      = ((tok (tokens m c) (t.val / 17) (rowOf 0 (256 * (t.val % 17) + flip 0 a)) (1024 + k) : ℝ) : EReal) := by
  have hi : (i 0 : ℕ) < 1 := (i 0).isLt
  have ha' : (i 1 : ℕ) < 256 := (i 1).isLt
  have hk' : (i 2 : ℕ) < 1024 := (i 2).isLt
  have hn : t.val % 17 < 17 := Nat.mod_lt _ (by decide)
  blk_simp [iblk, idx_fwd t]
  refine hX.eq_tok _ ?_ ?_ ?_ (by omega)
  all_goals blk_simp [idx_fwd t, rowOf_zero, flip_zero]
  all_goals first | omega | (split_ifs <;> omega)

theorem v_fwd (i : S1x256x2048.Idx) {a k : ℕ} (ha : (i 1 : ℕ) = a) (hk : (i 2 : ℕ) = k) :
    iblk m c 3 t i
      = ((tok (tokens m c) (t.val / 17) (rowOf 0 (256 * (t.val % 17) + flip 0 a)) (2048 + k) : ℝ) : EReal) := by
  have hi : (i 0 : ℕ) < 1 := (i 0).isLt
  have ha' : (i 1 : ℕ) < 256 := (i 1).isLt
  have hk' : (i 2 : ℕ) < 2048 := (i 2).isLt
  have hn : t.val % 17 < 17 := Nat.mod_lt _ (by decide)
  blk_simp [iblk, idx_fwd t]
  refine hX.eq_tok _ ?_ ?_ ?_ (by omega)
  all_goals blk_simp [idx_fwd t, rowOf_zero, flip_zero]
  all_goals first | omega | (split_ifs <;> omega)

theorem q_bwd (i : S1x256x1024.Idx) {a k : ℕ} (ha : (i 1 : ℕ) = a) (hk : (i 2 : ℕ) = k) :
    iblk m c 4 t i
      = ((tok (tokens m c) (t.val / 17) (rowOf 1 (256 * (t.val % 17) + flip 1 a)) (k) : ℝ) : EReal) := by
  have hi : (i 0 : ℕ) < 1 := (i 0).isLt
  have ha' : (i 1 : ℕ) < 256 := (i 1).isLt
  have hk' : (i 2 : ℕ) < 1024 := (i 2).isLt
  have hn : t.val % 17 < 17 := Nat.mod_lt _ (by decide)
  blk_simp [iblk, idx_bwd t]
  refine hX.eq_tok _ ?_ ?_ ?_ (by omega)
  all_goals blk_simp [idx_bwd t, rowOf_one, flip_one]
  all_goals first | omega | (split_ifs <;> omega)

theorem k_bwd (i : S1x256x1024.Idx) {a k : ℕ} (ha : (i 1 : ℕ) = a) (hk : (i 2 : ℕ) = k) :
    iblk m c 5 t i
      = ((tok (tokens m c) (t.val / 17) (rowOf 1 (256 * (t.val % 17) + flip 1 a)) (1024 + k) : ℝ) : EReal) := by
  have hi : (i 0 : ℕ) < 1 := (i 0).isLt
  have ha' : (i 1 : ℕ) < 256 := (i 1).isLt
  have hk' : (i 2 : ℕ) < 1024 := (i 2).isLt
  have hn : t.val % 17 < 17 := Nat.mod_lt _ (by decide)
  blk_simp [iblk, idx_bwd t]
  refine hX.eq_tok _ ?_ ?_ ?_ (by omega)
  all_goals blk_simp [idx_bwd t, rowOf_one, flip_one]
  all_goals first | omega | (split_ifs <;> omega)

theorem v_bwd (i : S1x256x2048.Idx) {a k : ℕ} (ha : (i 1 : ℕ) = a) (hk : (i 2 : ℕ) = k) :
    iblk m c 6 t i
      = ((tok (tokens m c) (t.val / 17) (rowOf 1 (256 * (t.val % 17) + flip 1 a)) (2048 + k) : ℝ) : EReal) := by
  have hi : (i 0 : ℕ) < 1 := (i 0).isLt
  have ha' : (i 1 : ℕ) < 256 := (i 1).isLt
  have hk' : (i 2 : ℕ) < 2048 := (i 2).isLt
  have hn : t.val % 17 < 17 := Nat.mod_lt _ (by decide)
  blk_simp [iblk, idx_bwd t]
  refine hX.eq_tok _ ?_ ?_ ?_ (by omega)
  all_goals blk_simp [idx_bwd t, rowOf_one, flip_one]
  all_goals first | omega | (split_ifs <;> omega)

omit hX

/-! The four tables, each the same block at every point. -/

theorem cdec_blk (i : S8.Idx) {d h : ℕ} (hi : (i 0 : ℕ) = 4 * d + h) (hh : h < 4) :
    iblk m c 0 t i = ((gam (logits m c) d h ^ 256 : ℝ) : EReal) := by
  blk_simp [iblk]
  refine cdec_eq m c _ ?_ hh
  blk_simp [idx_tables t]
  omega

theorem dmat_blk (i : S2x4x256x256.Idx) {d h a b : ℕ} (hd : (i 0 : ℕ) = d) (hh : (i 1 : ℕ) = h) (ha : (i 2 : ℕ) = a)
    (hb : (i 3 : ℕ) = b) :
    iblk m c 7 t i = ((weight (gam (logits m c) d h) (flip d a) (flip d b) : ℝ) : EReal) := by
  blk_simp [iblk]
  refine dmat_eq m c _ ?_ ?_ ?_ ?_
  all_goals blk_simp [idx_tables t]
  all_goals omega

theorem qdec_blk (i : S2x4x256x1.Idx) {d h a : ℕ} (hd : (i 0 : ℕ) = d) (hh : (i 1 : ℕ) = h) (ha : (i 2 : ℕ) = a) :
    iblk m c 8 t i = ((gam (logits m c) d h ^ (flip d a + 1) : ℝ) : EReal) := by
  blk_simp [iblk]
  refine qdec_eq m c _ ?_ ?_ ?_
  all_goals blk_simp [idx_tables t]
  all_goals omega

theorem kdec_blk (i : S2x4x256x1.Idx) {d h a : ℕ} (hd : (i 0 : ℕ) = d) (hh : (i 1 : ℕ) = h) (ha : (i 2 : ℕ) = a) :
    iblk m c 9 t i = ((gam (logits m c) d h ^ (255 - flip d a) : ℝ) : EReal) := by
  blk_simp [iblk]
  refine kdec_eq m c _ ?_ ?_ ?_
  all_goals blk_simp [idx_tables t]
  all_goals omega

end Cert.KernelIdeal.Val

end
-- ==== Proof.KernelValue.lean ====
/-
What the kernel computes.

Each grid point multiplies one chunk of queries, keys and values per direction and head, reads the state it kept from the chunk before,
and leaves the new state. By induction on the points the kept state is the recurrence's, and each point's outputs are the
recurrence's outputs.
-/
module

public import proofs.«01_k».proof.Proof.KernelBlocks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.Retention

/-- Stores that cover an index hide the stores before them there. -/
theorem canon_of_cover {Val : EltTy → Type} [∀ e, Nonempty (Val e)] {S : Shape} {e : EltTy} (L' : List (View.Piece Val S e)) (y : S.Idx) :
    ∀ L : List (View.Piece Val S e), (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_of_cover L' y L ?_
      obtain ⟨q, hq, hyq⟩ := h
      rcases List.mem_cons.mp hq with rfl | hq'
      · exact absurd hyq hm
      · exact ⟨q, hq', hyq⟩

/-- One chunk's new state, from the reads a grid point makes. -/
theorem state_step (X : Tokens.Idx → EReal) (L : Heads.Idx → EReal) (d b h κ ν n : ℕ) {T B : EReal} {K W V : Fin 256 → EReal}
    (hT : T = (stateOf X L d b h κ ν (256 * n) : ℝ)) (hB : B = ((gam L d h ^ 256 : ℝ) : EReal))
    (hK : ∀ j : Fin 256, K j = (tok X b (rowOf d (256 * n + flip d j)) (1024 + (256 * h + κ)) : ℝ))
    (hW : ∀ j : Fin 256, W j = ((gam L d h ^ (255 - flip d j) : ℝ) : EReal))
    (hV : ∀ j : Fin 256, V j = (tok X b (rowOf d (256 * n + flip d j)) (2048 + (512 * h + ν)) : ℝ)) :
    T * B + ∑ j, K j * W j * V j = (stateOf X L d b h κ ν (256 * n + 256) : ℝ) :=
  state_chunk (gam L d h) _ _ (256 * n) κ (order d) hT hB (fun j => by rw [hK, order_val]) (fun j => by rw [hW, order_val])
    fun j => by rw [hV, order_val]

/-- One chunk's output at row `i`, from the reads a grid point makes. -/
theorem out_step (X : Tokens.Idx → EReal) (L : Heads.Idx → EReal) (d b h ν n : ℕ) (i : Fin 256) {B : EReal}
    {Q T : Fin 256 → EReal} {A V : Fin 256 → EReal} {K : Fin 256 → Fin 256 → EReal}
    (hQ : ∀ κ : Fin 256, Q κ = (tok X b (rowOf d (256 * n + flip d i)) (256 * h + κ) : ℝ))
    (hK : ∀ j κ : Fin 256, K j κ = (tok X b (rowOf d (256 * n + flip d j)) (1024 + (256 * h + κ)) : ℝ))
    (hA : ∀ j : Fin 256, A j = (weight (gam L d h) (flip d i) (flip d j) : ℝ))
    (hV : ∀ j : Fin 256, V j = (tok X b (rowOf d (256 * n + flip d j)) (2048 + (512 * h + ν)) : ℝ))
    (hB : B = ((gam L d h ^ (flip d i + 1) : ℝ) : EReal))
    (hT : ∀ κ : Fin 256, T κ = (stateOf X L d b h κ ν (256 * n) : ℝ)) :
    ∑ j, (∑ κ, Q κ * K j κ) * A j * V j + ∑ κ, Q κ * B * T κ = (outOf X L d b h ν (256 * n + flip d i) : ℝ) := by
  rw [← order_val]
  exact outAt_chunk (gam L d h) _ _ _ (256 * n) (order d) (order d i) (fun κ => by rw [hQ, order_val]) hT (by rw [hB, order_val])
    (fun j κ => by rw [hK, order_val]) (fun j => by rw [hA, order_val, order_val]) fun j => by rw [hV, order_val]

variable {m : (ℓ : Loc nD τ sig) → Buf (Elt Ideal) ℓ}
variable {c : Dev nD} (hX : RealTokens (tokens m c))
include hX

attribute [local irreducible] iblk

/-- If the point before left the recurrence's state, or there is none and the point starts from nothing, the point leaves the
    recurrence's next state. -/
theorem kept_step (t : Fin cfg0.N) (hprev : ¬ t.val % 17 = 0 → ∀ (hp : t.val - 1 < cfg0.N) (y : S2x4x256x512.Idx) {d h κ ν : ℕ},
      (y 0 : ℕ) = d → (y 1 : ℕ) = h → (y 2 : ℕ) = κ → (y 3 : ℕ) = ν → (outsAt0 m c (t.val - 1) hp).2.2 y
        = ((stateOf (tokens m c) (logits m c) d (t.val / 17) h κ ν (256 * (t.val % 17)) : ℝ) : EReal))
    (y : S2x4x256x512.Idx) {d h κ ν : ℕ} (hd : (y 0 : ℕ) = d) (hh : (y 1 : ℕ) = h) (hκ : (y 2 : ℕ) = κ) (hν : (y 3 : ℕ) = ν) :
    (outsAt0 m c t.val t.isLt).2.2 y
      = ((stateOf (tokens m c) (logits m c) d (t.val / 17) h κ ν (256 * (t.val % 17) + 256) : ℝ) : EReal) := by
  have ed : d = 0 ∨ d = 1 := by have : (y 0 : ℕ) < 2 := (y 0).isLt; omega
  have eh : h = 0 ∨ h = 1 ∨ h = 2 ∨ h = 3 := by have : (y 1 : ℕ) < 4 := (y 1).isLt; omega
  by_cases h0 : t.val % 17 = 0
  case' pos =>
    rw [outsAt0_A m c t h0]
    frame_open
    simp (disch := decide) only [↓ View.readCov_skip, ↓ View.readCov_cons_toLoadRect, ↓ View.readCov_fill]
    frame_out
    refine (canon_of_cover [_] y [_, _, _, _, _, _, _, _] ?_).trans ?_
    · exact View.cover_of_tiledL (s := S2x4x256x512) _ ![1, 1, 256, 512] (by sl_kernel_rfl) y
  case' neg =>
    rw [outsAt0_B m c t h0]
    frame_out
    simp only [read_unread_whole]
  all_goals canon_tiles x p
  all_goals
    open_payloads
    pointwise
    rcases ed with rfl | rfl <;> rcases eh with rfl | rfl | rfl | rfl <;> try (exfalso; omega)
    refine state_step _ _ _ _ _ _ _ (t.val % 17) ?_ (cdec_blk t _ rfl (by decide)) ?_ (fun j => kdec_blk t _ rfl rfl rfl) ?_
    · first
        | exact hprev h0 _ _ rfl rfl (p2.symm.trans hκ) (p3.symm.trans hν)
        | (rw [h0]; rfl)
    · first
        | exact fun j => k_fwd hX t _ rfl (by blk_simp; dsimp only; omega)
        | exact fun j => k_bwd hX t _ rfl (by blk_simp; dsimp only; omega)
    · first
        | exact fun j => v_fwd hX t _ rfl (by blk_simp; dsimp only; omega)
        | exact fun j => v_bwd hX t _ rfl (by blk_simp; dsimp only; omega)

/-- The state kept after a point is the recurrence's after the point's chunk. -/
theorem kept_eq : ∀ (n : ℕ) (hn : n < cfg0.N) (y : S2x4x256x512.Idx) {d h κ ν : ℕ}, (y 0 : ℕ) = d → (y 1 : ℕ) = h →
    (y 2 : ℕ) = κ → (y 3 : ℕ) = ν → (outsAt0 m c n hn).2.2 y
      = ((stateOf (tokens m c) (logits m c) d (n / 17) h κ ν (256 * (n % 17) + 256) : ℝ) : EReal)
  | 0, hn => fun y _ _ _ _ => kept_step hX ⟨0, hn⟩ (fun h => absurd rfl h) y
  | n + 1, hn => fun y _ _ _ _ => kept_step hX ⟨n + 1, hn⟩ (fun h hp y d h' κ ν hd hh hκ hν => by
      have h : ¬ (n + 1) % 17 = 0 := h
      have := kept_eq n (Nat.lt_of_succ_lt hn) y hd hh hκ hν
      rw [show n / 17 = (n + 1) / 17 by omega, show 256 * (n % 17) + 256 = 256 * ((n + 1) % 17) by omega] at this
      exact this) y

set_option maxHeartbeats 1600000 in
/-- What a point writes to the two results' blocks: the recurrence's outputs at the rows of its two chunks. -/
theorem outs_eq (t : Fin cfg0.N) (y : S1x256x2048.Idx) {a h ν : ℕ} (ha : (y 1 : ℕ) = a) (hc : (y 2 : ℕ) = 512 * h + ν) (hν : ν < 512) :
    (outsAt0 m c t.val t.isLt).1 y
        = ((outOf (tokens m c) (logits m c) 0 (t.val / 17) h ν (256 * (t.val % 17) + flip 0 a) : ℝ) : EReal)
      ∧ (outsAt0 m c t.val t.isLt).2.1 y
        = ((outOf (tokens m c) (logits m c) 1 (t.val / 17) h ν (256 * (t.val % 17) + flip 1 a) : ℝ) : EReal) := by
  have eh : h = 0 ∨ h = 1 ∨ h = 2 ∨ h = 3 := by have : (y 2 : ℕ) < 2048 := (y 2).isLt; omega
  have hp : ¬ t.val % 17 = 0 → ∀ (hp : t.val - 1 < cfg0.N) (y : S2x4x256x512.Idx) {d h κ ν : ℕ},
      (y 0 : ℕ) = d → (y 1 : ℕ) = h → (y 2 : ℕ) = κ → (y 3 : ℕ) = ν → (outsAt0 m c (t.val - 1) hp).2.2 y
        = ((stateOf (tokens m c) (logits m c) d (t.val / 17) h κ ν (256 * (t.val % 17)) : ℝ) : EReal) := by
    intro h hp y d h' κ ν hd hh hκ hν
    have := kept_eq hX _ hp y hd hh hκ hν
    rw [show (t.val - 1) / 17 = t.val / 17 by omega, show 256 * ((t.val - 1) % 17) + 256 = 256 * (t.val % 17) by omega] at this
    exact this
  by_cases h0 : t.val % 17 = 0
  case' pos =>
    rw [outsAt0_A m c t h0]
    frame_open
    simp (disch := decide) only [↓ View.readCov_skip, ↓ View.readCov_cons_toLoadRect, ↓ View.readCov_fill]
    frame_out
  case' neg =>
    rw [outsAt0_B m c t h0]
    frame_out
    simp only [read_unread_whole]
  all_goals refine ⟨?_, ?_⟩
  all_goals canon_tiles x p
  all_goals
    open_payloads
    pointwise
    rcases eh with rfl | rfl | rfl | rfl <;> try (exfalso; omega)
    obtain rfl : (x 1).val = a := p1.symm.trans ha
    refine out_step _ _ _ _ _ _ (t.val % 17) (x 1) ?_ ?_ (fun j => dmat_blk t _ rfl rfl rfl rfl) ?_ (qdec_blk t _ rfl rfl rfl) ?_
    · first
        | exact fun κ => q_fwd hX t _ rfl (by first | rfl | (blk_simp; done) | (blk_simp; dsimp only; omega))
        | exact fun κ => q_bwd hX t _ rfl (by first | rfl | (blk_simp; done) | (blk_simp; dsimp only; omega))
    · first
        | exact fun j κ => k_fwd hX t _ rfl (by first | rfl | (blk_simp; done) | (blk_simp; dsimp only; omega))
        | exact fun j κ => k_bwd hX t _ rfl (by first | rfl | (blk_simp; done) | (blk_simp; dsimp only; omega))
    · first
        | exact fun j => v_fwd hX t _ rfl (by first | rfl | (blk_simp; done) | (blk_simp; dsimp only; omega))
        | exact fun j => v_bwd hX t _ rfl (by first | rfl | (blk_simp; done) | (blk_simp; dsimp only; omega))
    · first
        | exact fun κ => hp h0 _ _ rfl rfl rfl (by first | rfl | (blk_simp; done) | (blk_simp; dsimp only; omega))
        | (rw [h0]; exact fun κ => rfl)

end Cert.KernelIdeal.Val

end
-- ==== Proof.KernelFinal.lean ====
/-
The kernel's two result arrays: the blocks that the points write back tile them, and each holds the recurrence's outputs.
-/
module

public import proofs.«01_k».proof.Proof.KernelValue

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.Retention

/-- A direction's result array. -/
def resultArr (X : Tokens.Idx → EReal) (L : Heads.Idx → EReal) (d : ℕ) : S4x4352x2048.Idx → EReal :=
  fun i => ((result X L d (i 0) (i 1) (i 2) : ℝ) : EReal)

variable {m : (ℓ : Loc nD τ sig) → Buf (Elt Ideal) ℓ}
variable {c : Dev nD} (hX : RealTokens (tokens m c))
include hX

/-- The forward scan's array after the run. -/
theorem final_fwd : (dats m 0 c).arrAt 10 cfg0.N = resultArr (tokens m c) (logits m c) 0 := by
  refine (dats m 0 c).arrAt_eq_of_covers 10 _ (by decide +kernel) fun t _ y => ?_
  blk_simp
  rw [after0_10]
  have hy : (y 1 : ℕ) < 256 := (y 1).isLt
  have hy0 : (y 0 : ℕ) < 1 := (y 0).isLt
  have hy2 : (y 2 : ℕ) < 2048 := (y 2).isLt
  have hn : t.val % 17 < 17 := Nat.mod_lt _ (by decide)
  refine ((outs_eq hX t y (h := (y 2 : ℕ) / 512) (ν := (y 2 : ℕ) % 512) rfl (by omega) (by omega)).1).trans ?_
  unfold resultArr result
  congr 2
  all_goals blk_simp [idx_fwd t, posOf_zero, flip_zero]
  all_goals first | omega | (split_ifs <;> omega)

/-- The backward scan's array after the run. -/
theorem final_bwd : (dats m 0 c).arrAt 11 cfg0.N = resultArr (tokens m c) (logits m c) 1 := by
  refine (dats m 0 c).arrAt_eq_of_covers 11 _ (by decide +kernel) fun t _ y => ?_
  blk_simp
  rw [after0_11]
  have hy : (y 1 : ℕ) < 256 := (y 1).isLt
  have hy0 : (y 0 : ℕ) < 1 := (y 0).isLt
  have hy2 : (y 2 : ℕ) < 2048 := (y 2).isLt
  have hn : t.val % 17 < 17 := Nat.mod_lt _ (by decide)
  refine ((outs_eq hX t y (h := (y 2 : ℕ) / 512) (ν := (y 2 : ℕ) % 512) rfl (by omega) (by omega)).2).trans ?_
  unfold resultArr result
  congr 2
  all_goals blk_simp [idx_bwd t, posOf_one, flip_one]
  all_goals first | omega | (split_ifs <;> omega)

end Cert.KernelIdeal.Val

end
-- ==== Proof.ReferenceStart.lean ====
/-
What the reference's loop starts from, at an index: the tokens in the order of each direction's scan, cut into 34 chunks of 128,
and the decay tables of a chunk. Axis 0 of the tokens is the chunk, then direction, batch, head, place in the chunk, channel.
-/
module

public import proofs.«01_k».proof.Proof.Gen.ReferenceIdeal.Step
public import proofs.«01_k».proof.Proof.Tokens
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Val

open Cert.ReferenceIdeal Cert.ReferenceIdeal.Gen Cert.ReferenceIdeal.Step Cert.Retention

variable {X : Tokens.Idx → EReal} {L : Heads.Idx → EReal}

/-- What a scan-order array holds at a position, one of the three pieces it is put together from, is the token of that position's
    row: the context's first, then the latents', in direction 0; the last row first in direction 1. -/
theorem at_row {f : ℕ → EReal} {d p : ℕ} {P : d < 1 → p < 256 → EReal} {Q : d < 1 → ¬ p < 256 → EReal} {R : ¬ d < 1 → EReal}
    (hd : d < 2) (hP : ∀ h h', P h h' = f (4096 + p)) (hQ : ∀ h h', Q h h' = f (p - 256)) (hR : ∀ h, R h = f (4351 - p)) :
    (if h : d < 1 then if h' : p < 256 then P h h' else Q h h' else R h) = f (rowOf d p) := by
  by_cases h0 : d < 1
  · obtain rfl : d = 0 := by omega
    rw [dif_pos h0, rowOf_zero]
    by_cases h1 : p < 256
    · rw [dif_pos h1, if_pos h1, hP]
    · rw [dif_neg h1, if_neg h1, hQ]
  · obtain rfl : d = 1 := by omega
    rw [dif_neg h0, rowOf_one, hR]

/-- The queries in the order of the scans. -/
theorem queries_scanned (hX : RealTokens X) (i : S2x4x4x4352x256.Idx) {d b h p c : ℕ} (hd : (i 0 : ℕ) = d) (hb : (i 1 : ℕ) = b)
    (hh : (i 2 : ℕ) = h) (hp : (i 3 : ℕ) = p) (hc : (i 4 : ℕ) = c) :
    A_main_v23 (F := Ideal) X L i = (tok X b (rowOf d p) (256 * h + c) : ℝ) := by
  subst hd hb hh hp hc
  idx_vars i
  have b2 : i2.val < 4 := i2.isLt
  have b4 : i4.val < 256 := i4.isLt
  pointwise [A_main_v23, A_main_v22, A_main_v21, A_main_v20, A_main_v19, A_main_v18, A_main_v17, A_main_v16, A_main_v15, A_main_v10, A_main_v9]
  refine at_row (f := fun r => ((tok X i1.val r (256 * i2.val + i4.val) : ℝ) : EReal)) i0.isLt (fun _ _ => ?_) (fun _ _ => ?_) (fun _ => ?_)
  · exact hX.eq_tok _ rfl rfl (by show i2.val * 256 + i4.val = _; omega) (by omega)
  · exact hX.eq_tok _ rfl rfl (by show i2.val * 256 + i4.val = _; omega) (by omega)
  · exact hX.eq_tok _ rfl (by show 4352 - (i3.val + 1) = _; omega) (by show i2.val * 256 + i4.val = _; omega) (by omega)

/-- The keys in the order of the scans. -/
theorem keys_scanned (hX : RealTokens X) (i : S2x4x4x4352x256.Idx) {d b h p c : ℕ} (hd : (i 0 : ℕ) = d) (hb : (i 1 : ℕ) = b)
    (hh : (i 2 : ℕ) = h) (hp : (i 3 : ℕ) = p) (hc : (i 4 : ℕ) = c) :
    A_main_v32 (F := Ideal) X L i = (tok X b (rowOf d p) (1024 + (256 * h + c)) : ℝ) := by
  subst hd hb hh hp hc
  idx_vars i
  have b2 : i2.val < 4 := i2.isLt
  have b4 : i4.val < 256 := i4.isLt
  pointwise [A_main_v32, A_main_v31, A_main_v30, A_main_v29, A_main_v28, A_main_v27, A_main_v26, A_main_v25, A_main_v24, A_main_v11, A_main_v9]
  refine at_row (f := fun r => ((tok X i1.val r (1024 + (256 * i2.val + i4.val)) : ℝ) : EReal)) i0.isLt (fun _ _ => ?_) (fun _ _ => ?_) (fun _ => ?_)
  · exact hX.eq_tok _ rfl rfl (by show 1024 + (i2.val * 256 + i4.val) = _; omega) (by omega)
  · exact hX.eq_tok _ rfl rfl (by show 1024 + (i2.val * 256 + i4.val) = _; omega) (by omega)
  · exact hX.eq_tok _ rfl (by show 4352 - (i3.val + 1) = _; omega) (by show 1024 + (i2.val * 256 + i4.val) = _; omega) (by omega)

/-- The values in the order of the scans. -/
theorem values_scanned (hX : RealTokens X) (i : S2x4x4x4352x512.Idx) {d b h p c : ℕ} (hd : (i 0 : ℕ) = d) (hb : (i 1 : ℕ) = b)
    (hh : (i 2 : ℕ) = h) (hp : (i 3 : ℕ) = p) (hc : (i 4 : ℕ) = c) :
    A_main_v41 (F := Ideal) X L i = (tok X b (rowOf d p) (2048 + (512 * h + c)) : ℝ) := by
  subst hd hb hh hp hc
  idx_vars i
  have b2 : i2.val < 4 := i2.isLt
  have b4 : i4.val < 512 := i4.isLt
  pointwise [A_main_v41, A_main_v40, A_main_v39, A_main_v38, A_main_v37, A_main_v36, A_main_v35, A_main_v34, A_main_v33, A_main_v12, A_main_v9]
  refine at_row (f := fun r => ((tok X i1.val r (2048 + (512 * i2.val + i4.val)) : ℝ) : EReal)) i0.isLt (fun _ _ => ?_) (fun _ _ => ?_) (fun _ => ?_)
  · exact hX.eq_tok _ rfl rfl (by show 2048 + (i2.val * 512 + i4.val) = _; omega) (by omega)
  · exact hX.eq_tok _ rfl rfl (by show 2048 + (i2.val * 512 + i4.val) = _; omega) (by omega)
  · exact hX.eq_tok _ rfl (by show 4352 - (i3.val + 1) = _; omega) (by show 2048 + (i2.val * 512 + i4.val) = _; omega) (by omega)

/-- The chunk axis moved to the front. -/
theorem chunk_first {W : ℕ} (x : (⟨6, ![2, 4, 4, 34, 128, W]⟩ : Shape).Idx → EReal)
    (h : (⟨6, ![2, 4, 4, 34, 128, W]⟩ : Shape).Transposes [3, 0, 1, 2, 4, 5] ⟨6, ![34, 2, 4, 4, 128, W]⟩)
    (n : Fin 34) (d : Fin 2) (b : Fin 4) (e : Fin 4) (a : Fin 128) (c : Fin W) :
    transpose ⟨6, ![34, 2, 4, 4, 128, W]⟩ [3, 0, 1, 2, 4, 5] x h (ix6 n d b e a c) = x (ix6 d b e n a c) :=
  transpose_apply _ _ _ _ _ fun k =>
    match k with | ⟨0, _⟩ => rfl | ⟨1, _⟩ => rfl | ⟨2, _⟩ => rfl | ⟨3, _⟩ => rfl | ⟨4, _⟩ => rfl | ⟨5, _⟩ => rfl

/-- The queries of a chunk. -/
theorem queries_chunk (hX : RealTokens X) (i : S34x2x4x4x128x256.Idx) {n d b h a c : ℕ} (hn : (i 0 : ℕ) = n) (hd : (i 1 : ℕ) = d)
    (hb : (i 2 : ℕ) = b) (hh : (i 3 : ℕ) = h) (ha : (i 4 : ℕ) = a) (hc : (i 5 : ℕ) = c) :
    A_main_v78 (F := Ideal) X L i = (tok X b (rowOf d (128 * n + a)) (256 * h + c) : ℝ) := by
  idx_vars i
  unfold A_main_v78
  rw [chunk_first]
  pointwise [A_main_v77]
  exact queries_scanned hX _ hd hb hh (by rw [← hn, ← ha]; exact congrArg (· + _) (Nat.mul_comm _ _)) hc

/-- The keys of a chunk. -/
theorem keys_chunk (hX : RealTokens X) (i : S34x2x4x4x128x256.Idx) {n d b h a c : ℕ} (hn : (i 0 : ℕ) = n) (hd : (i 1 : ℕ) = d)
    (hb : (i 2 : ℕ) = b) (hh : (i 3 : ℕ) = h) (ha : (i 4 : ℕ) = a) (hc : (i 5 : ℕ) = c) :
    A_main_v80 (F := Ideal) X L i = (tok X b (rowOf d (128 * n + a)) (1024 + (256 * h + c)) : ℝ) := by
  idx_vars i
  unfold A_main_v80
  rw [chunk_first]
  pointwise [A_main_v79]
  exact keys_scanned hX _ hd hb hh (by rw [← hn, ← ha]; exact congrArg (· + _) (Nat.mul_comm _ _)) hc

/-- The values of a chunk. -/
theorem values_chunk (hX : RealTokens X) (i : S34x2x4x4x128x512.Idx) {n d b h a c : ℕ} (hn : (i 0 : ℕ) = n) (hd : (i 1 : ℕ) = d)
    (hb : (i 2 : ℕ) = b) (hh : (i 3 : ℕ) = h) (ha : (i 4 : ℕ) = a) (hc : (i 5 : ℕ) = c) :
    A_main_v82 (F := Ideal) X L i = (tok X b (rowOf d (128 * n + a)) (2048 + (512 * h + c)) : ℝ) := by
  idx_vars i
  unfold A_main_v82
  rw [chunk_first]
  pointwise [A_main_v81]
  exact values_scanned hX _ hd hb hh (by rw [← hn, ← ha]; exact congrArg (· + _) (Nat.mul_comm _ _)) hc

/-- The logarithm of a decay. -/
theorem log_decay (i : S2x4.Idx) : A_main_v8 (F := Ideal) X L i = logSigmoid (L i) := by
  idx_vars i
  pointwise [A_main_v8, A_main_v7, A_main_v6, A_main_v5, A_main_v4, A_main_v3, A_main_v2, A_main_v0, K_main_v1, K_main_cst]
  rfl

/-- A head's decay over a whole chunk. -/
theorem chunk_decay (i : S2x4.Idx) {d h : ℕ} (hd : (i 0 : ℕ) = d) (hh : (i 1 : ℕ) = h) :
    A_main_v76 (F := Ideal) X L i = ((gam L d h ^ 128 : ℝ) : EReal) := by
  idx_vars i
  pointwise [A_main_v76, A_main_v75, K_main_v74, K_main_cst_6]
  rw [log_decay]
  exact exp_eq_pow _ hd hh ofBits_128

/-- The decay of a token's key and value to the end of its chunk. -/
theorem key_decay (i : S2x4x128.Idx) {d h a : ℕ} (hd : (i 0 : ℕ) = d) (hh : (i 1 : ℕ) = h) (ha : (i 2 : ℕ) = a) :
    A_main_v73 (F := Ideal) X L i = ((gam L d h ^ (127 - a) : ℝ) : EReal) := by
  subst ha
  idx_vars i
  have b2 : i2.val < 128 := i2.isLt
  pointwise [A_main_v73, A_main_v72, A_main_v71, A_main_v48, K_main_v70, K_main_v69, K_main_v68, K_main_v67, K_main_cst_5, K_main_v42]
  rw [log_decay, ofBits_127, sitofp_ofNat (by omega)]
  exact exp_eq_pow _ hd hh (sub_nat (by omega))

/-- The decay of the state as a token of a chunk reads it. -/
theorem query_decay (i : S2x4x128.Idx) {d h a : ℕ} (hd : (i 0 : ℕ) = d) (hh : (i 1 : ℕ) = h) (ha : (i 2 : ℕ) = a) :
    A_main_v66 (F := Ideal) X L i = ((gam L d h ^ (a + 1) : ℝ) : EReal) := by
  subst ha
  idx_vars i
  have b2 : i2.val < 128 := i2.isLt
  pointwise [A_main_v66, A_main_v65, A_main_v64, A_main_v48, K_main_v63, K_main_v62, K_main_v61, K_main_v60, K_main_cst_4, K_main_v42]
  rw [log_decay, sitofp_ofNat (by omega)]
  exact exp_eq_pow _ hd hh (add_one_nat _)

/-- The decays between the tokens of a chunk. -/
theorem pair_decay (i : S2x4x128x128.Idx) {d h a b : ℕ} (hd : (i 0 : ℕ) = d) (hh : (i 1 : ℕ) = h) (ha : (i 2 : ℕ) = a)
    (hb : (i 3 : ℕ) = b) : A_main_v59 (F := Ideal) X L i = (weight (gam L d h) a b : ℝ) := by
  subst ha hb
  idx_vars i
  have b2 : i2.val < 128 := i2.isLt
  have b3 : i3.val < 128 := i3.isLt
  pointwise [A_main_v59, A_main_v58, A_main_v57, A_main_v56, A_main_v54, A_main_v48, K_main_v55, K_main_v53, K_main_v52, K_main_v51,
    K_main_cst_2, K_main_v47, K_main_v46, K_main_v45, K_main_v44, K_main_v43, K_main_v42, K_main_call0_v1, K_main_call0_v2,
    K_main_call0_v0, K_main_cst_3, K_main_v50, K_main_v49, K_main_cst_1]
  rw [log_decay, sitofp_ofNat (show i2.val < 2 ^ 31 by omega), sitofp_ofNat (show i3.val < 2 ^ 31 by omega)]
  simp only [id, constant_apply, Ideal.ofBits_def, Ideal.ofBits_zero_f32]
  exact masked_eq_weight _ hd hh _ _

end Cert.ReferenceIdeal.Val

end
-- ==== Proof.LoopRun.lean ====
/-
  The reference's run: its loop's buffers after `n` trips are the `n`-th of a sequence of states that goes on by one
  trip, `Step.step`.
-/
module

public import proofs.«01_k».proof.Proof.Gen.ReferenceIdeal.Run
public import proofs.«01_k».proof.Proof.Gen.ReferenceIdeal.Step

@[expose] public section

set_option maxRecDepth 16384

noncomputable section

namespace Cert.ReferenceIdeal.Val

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]

/-- The state a valuation of the loop's buffers holds. -/
def stateAt (V : Valuation τ sig (Elt F)) : State F where
  main_v84_8 := V (Proc.devRef .tc main_v84_8)
  main_v84_9 := V (Proc.devRef .tc main_v84_9)
  main_v84_0 := V (Proc.devRef .tc main_v84_0)
  main_v84_1 := V (Proc.devRef .tc main_v84_1)
  main_v84_2 := V (Proc.devRef .tc main_v84_2)
  main_v84_3 := V (Proc.devRef .tc main_v84_3)
  main_v84_4 := V (Proc.devRef .tc main_v84_4)
  main_v84_5 := V (Proc.devRef .tc main_v84_5)
  main_v84_6 := V (Proc.devRef .tc main_v84_6)

/-- The number of the trip, as the loop counts it. -/
abbrev tripNo (n : ℕ) : (⟨S_, .i32⟩ : BufTy).Contents (Elt F) := constantI S_ 32 (BitVec.ofNat 32 n)

variable {V : Valuation τ sig (Elt F)} {n : ℕ}

theorem q_chunk (h : V (Proc.devRef .tc main_v84_7) = tripNo n) : res_main_while0b_v103 V = b6 n (stateAt V) := by
  unfold res_main_while0b_v103
  rw [h]
  rfl

theorem k_chunk (h : V (Proc.devRef .tc main_v84_7) = tripNo n) : res_main_while0b_v104 V = b13 n (stateAt V) := by
  unfold res_main_while0b_v104
  rw [h]
  rfl

theorem v_chunk (h : V (Proc.devRef .tc main_v84_7) = tripNo n) : res_main_while0b_v105 V = b20 n (stateAt V) := by
  unfold res_main_while0b_v105
  rw [h]
  rfl

theorem trip_state (h : V (Proc.devRef .tc main_v84_7) = tripNo n) :
    Value.step_main_v84_8 V = b38 n (stateAt V) := by
  unfold Value.step_main_v84_8
  show id (addf _ (Host.dotGeneral _ none (mulf (res_main_while0b_v104 V) _) (res_main_while0b_v105 V))) = _
  rw [k_chunk h, v_chunk h]
  rfl

theorem trip_outs (h : V (Proc.devRef .tc main_v84_7) = tripNo n) :
    Value.step_main_v84_9 V = b45 n (stateAt V) := by
  unfold Value.step_main_v84_9
  rw [q_chunk h, k_chunk h, v_chunk h, h]
  rfl

theorem trip_count (h : V (Proc.devRef .tc main_v84_7) = tripNo n) :
    Value.step_main_v84_7 V = tripNo (n + 1) := by
  unfold Value.step_main_v84_7
  rw [h]
  funext i
  show BitVec.ofNat 32 n + 1#32 = BitVec.ofNat 32 (n + 1)
  rw [BitVec.ofNat_add]

/-- One trip takes the state held to the next. -/
theorem trip (h : V (Proc.devRef .tc main_v84_7) = tripNo n) :
    STEP V (Proc.devRef .tc main_v84_7) = tripNo (n + 1) ∧ stateAt (STEP V) = step n (stateAt V) := by
  refine ⟨(STEP_main_v84_7 V).trans (trip_count h), ?_⟩
  unfold step stateAt
  rw [STEP_main_v84_8, STEP_main_v84_9, STEP_main_v84_0, STEP_main_v84_1, STEP_main_v84_2, STEP_main_v84_3,
    STEP_main_v84_4, STEP_main_v84_5, STEP_main_v84_6, trip_state h, trip_outs h]
  rfl

/-- The states before each trip, from the one the arguments give. -/
def states (X : (⟨S4x4352x6144, .bf16⟩ : BufTy).Contents (Elt F)) (L : (⟨S2x4, .f32⟩ : BufTy).Contents (Elt F)) :
    ℕ → State F
  | 0 => init X L
  | n + 1 => step n (states X L n)

variable (m : (ℓ : Loc nD τ sig) → Buf (Elt F) ℓ) (ρ : Dev nD → PrngReg) (c : Dev nD)

abbrev statesOf : ℕ → State F :=
  states (m ((c.tc : Thread nD τ).loc main_arg0)) (m ((c.tc : Thread nD τ).loc main_arg1))

set_option maxRecDepth 65536 in
set_option maxHeartbeats 1000000 in
/-- What the loop is entered with. -/
theorem entered : entryContents preI m c (Proc.devRef .tc main_v84_7) = tripNo 0
    ∧ stateAt (entryContents preI m c) = statesOf m c 0 := by
  constructor
  · simp only [entryContents, afterL_cons, afterL_nil]
    after_reads_simp
    rfl
  · unfold stateAt
    simp only [entryContents, afterL_cons, afterL_nil]
    after_reads_simp
    rfl

theorem held : ∀ n, (STEP^[n] (entryContents preI m c)) (Proc.devRef .tc main_v84_7) = tripNo n
    ∧ stateAt (STEP^[n] (entryContents preI m c)) = statesOf m c n
  | 0 => entered m c
  | n + 1 => by
    rw [Function.iterate_succ_apply']
    have := trip (held n).1
    rw [(held n).2] at this
    exact this

/-- The run's results, off the state after the last trip; the arguments are as they were. -/
theorem run_states : θ_run (defs (F := F)) (onTc (τ := τ) (main (F := F))) ⟨m, fun _ => 0, ρ⟩ fun r => ∀ c : Dev nD,
    r.2.mem ((c.tc : Thread nD τ).loc main_v96) = R_main_v96 (statesOf m c 34)
    ∧ r.2.mem ((c.tc : Thread nD τ).loc main_v102) = R_main_v102 (statesOf m c 34)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun _ h c => ⟨(h c).1.trans ?_, (h c).2.1.trans ?_, (h c).2.2⟩) (Value.run m ρ)
  · rw [← (held m c 34).2]
    generalize STEP^[34] (entryContents preI m c) = V
    unfold out_main_v96 R_main_v96 stateAt
    rfl
  · rw [← (held m c 34).2]
    generalize STEP^[34] (entryContents preI m c) = V
    unfold out_main_v102 R_main_v102 stateAt
    rfl

/-- The reference has no semaphore. -/
theorem no_semaphore : IsEmpty (SemLoc sig) := by
  constructor
  intro s
  cases s with
  | _ x => exact x.elim0

/-- The reference terminates, leaves its arguments as they were, and leaves every semaphore counter at zero. -/
theorem frame : θ_run (defs (F := F)) (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run defs _ _).mono (fun _ h => ⟨fun c => (h c).2.2, funext fun g => (no_semaphore.false g.2).elim⟩) (Value.run m ρ)

end Cert.ReferenceIdeal.Val

end
-- ==== Proof.ReferenceValue.lean ====
/-
The reference's results: trip `n` of its loop takes the states of every head from the first `128 n` tokens of a scan to the next
128, and writes what those 128 read.
-/
module

public import proofs.«01_k».proof.Proof.ReferenceStart
public import proofs.«01_k».proof.Proof.LoopRun
public import Idealize.ShloMosaic.Lib.WordCmp
public import Idealize.ShloMosaic.Lib.DynamicIndex

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.ReferenceIdeal.Step Cert.Retention

/-- The chunks of a scan: chunk, direction, batch, head, place, channel. -/
abbrev Chunks (N W : ℕ) : Shape := ⟨6, ![N, 2, 4, 4, 128, W]⟩

/-- A chunk lies inside the scan. -/
theorem chunk_fits {W n : ℕ} (hn : n < 34) : (Chunks 34 W).Slices ![n, 0, 0, 0, 0, 0] (Chunks 1 W) :=
  ⟨rfl, fun a => match a with
    | ⟨0, _⟩ => hn | ⟨1, _⟩ => le_rfl | ⟨2, _⟩ => le_rfl | ⟨3, _⟩ => le_rfl | ⟨4, _⟩ => le_rfl | ⟨5, _⟩ => le_of_eq (Nat.zero_add W)⟩

/-- The chunk a trip reads. -/
theorem chunk_read {W n : ℕ} (hn : n < 34) (x : (Chunks 34 W).Idx → EReal) (start : Fin 6 → Int)
    (h : (Chunks 34 W).Slices (fun _ => 0) (Chunks 1 W)) (hs : ∀ k, start k = ((![n, 0, 0, 0, 0, 0] k : ℕ) : Int))
    (d : Fin 2) (b : Fin 4) (e : Fin 4) (a : Fin 128) (c : Fin W) :
    Host.dynamicSlice (Chunks 1 W) x start h (ix6 0 d b e a c) = x (ix6 ⟨n, hn⟩ d b e a c) := by
  rw [Host.dynamicSlice_eq_extractStridedSlice _ _ _ ![n, 0, 0, 0, 0, 0] _ (chunk_fits hn) hs]
  unfold extractStridedSlice
  refine congrArg x (funext fun k => Fin.ext ?_)
  match k with
  | ⟨0, _⟩ => rfl
  | ⟨1, _⟩ => exact Nat.zero_add _
  | ⟨2, _⟩ => exact Nat.zero_add _
  | ⟨3, _⟩ => exact Nat.zero_add _
  | ⟨4, _⟩ => exact Nat.zero_add _
  | ⟨5, _⟩ => exact Nat.zero_add _

/-- The chunk a trip writes, the others as they were. -/
theorem chunk_write {W n : ℕ} (hn : n < 34) (x : (Chunks 34 W).Idx → EReal) (u : (Chunks 1 W).Idx → EReal) (start : Fin 6 → Int)
    (h : (Chunks 34 W).Slices (fun _ => 0) (Chunks 1 W)) (hs : ∀ k, start k = ((![n, 0, 0, 0, 0, 0] k : ℕ) : Int))
    (n' : Fin 34) (d : Fin 2) (b : Fin 4) (e : Fin 4) (a : Fin 128) (c : Fin W) :
    Host.dynamicUpdateSlice x u start h (ix6 n' d b e a c) = if n'.val = n then u (ix6 0 d b e a c) else x (ix6 n' d b e a c) := by
  rw [Idealize.ShloMosaic.WordCmp.dynamicUpdateSlice_eq_update _ _ _ _ ![n, 0, 0, 0, 0, 0] (chunk_fits hn) hs]
  unfold updateSlice
  split_ifs with h1 h2 h2
  · refine congrArg u (funext fun k => Fin.ext ?_)
    match k with
    | ⟨0, _⟩ => show n'.val - n = 0; omega
    | ⟨1, _⟩ => exact Nat.sub_zero _
    | ⟨2, _⟩ => exact Nat.sub_zero _
    | ⟨3, _⟩ => exact Nat.sub_zero _
    | ⟨4, _⟩ => exact Nat.sub_zero _
    | ⟨5, _⟩ => exact Nat.sub_zero _
  · exfalso
    have h3 : n ≤ n'.val ∧ n'.val < n + 1 := h1 0
    omega
  · refine absurd (fun k => ?_) h1
    match k with
    | ⟨0, _⟩ => show n ≤ n'.val ∧ n'.val < n + 1; omega
    | ⟨1, _⟩ => exact ⟨Nat.zero_le _, (Nat.zero_add _).symm ▸ d.isLt⟩
    | ⟨2, _⟩ => exact ⟨Nat.zero_le _, (Nat.zero_add _).symm ▸ b.isLt⟩
    | ⟨3, _⟩ => exact ⟨Nat.zero_le _, (Nat.zero_add _).symm ▸ e.isLt⟩
    | ⟨4, _⟩ => exact ⟨Nat.zero_le _, (Nat.zero_add _).symm ▸ a.isLt⟩
    | ⟨5, _⟩ => exact ⟨Nat.zero_le _, (Nat.zero_add _).symm ▸ c.isLt⟩
  · rfl

/-- Where a trip's chunk starts. -/
theorem starts {n : ℕ} (hn : n < 34) (k : Fin 6) :
    ((![constantI S_ 32 (BitVec.ofNat 32 n), constantI S_ 32 0#32, constantI S_ 32 0#32, constantI S_ 32 0#32, constantI S_ 32 0#32,
      constantI S_ 32 0#32] : Fin 6 → IVec S_ 32) k (Shape.Idx.first h_S_)).toInt = ((![n, 0, 0, 0, 0, 0] k : ℕ) : Int) :=
  match k with
  | ⟨0, _⟩ => toInt_ofNat_of_lt (show n < 2 ^ 31 by omega)
  | ⟨1, _⟩ => rfl | ⟨2, _⟩ => rfl | ⟨3, _⟩ => rfl | ⟨4, _⟩ => rfl | ⟨5, _⟩ => rfl

variable (s : State Ideal) {n : ℕ} (hn : n < 34)

/-- A trip's queries. -/
theorem q_of (i : S2x4x4x128x256.Idx) : b6 n s i = s.main_v84_0 (ix6 ⟨n, hn⟩ (i 0) (i 1) (i 2) (i 3) (i 4)) := by
  idx_vars i
  pointwise [b6]
  exact chunk_read hn s.main_v84_0 _ _ (starts hn) _ _ _ _ _

/-- A trip's keys. -/
theorem k_of (i : S2x4x4x128x256.Idx) : b13 n s i = s.main_v84_1 (ix6 ⟨n, hn⟩ (i 0) (i 1) (i 2) (i 3) (i 4)) := by
  idx_vars i
  pointwise [b13]
  exact chunk_read hn s.main_v84_1 _ _ (starts hn) _ _ _ _ _

/-- A trip's values. -/
theorem v_of (i : S2x4x4x128x512.Idx) : b20 n s i = s.main_v84_2 (ix6 ⟨n, hn⟩ (i 0) (i 1) (i 2) (i 3) (i 4)) := by
  idx_vars i
  pointwise [b20]
  exact chunk_read hn s.main_v84_2 _ _ (starts hn) _ _ _ _ _

include hn in
/-- The outputs after a trip. -/
theorem outs_of (n' : Fin 34) (d : Fin 2) (b : Fin 4) (e : Fin 4) (a : Fin 128) (c : Fin 512) :
    b45 n s (ix6 n' d b e a c) = if n'.val = n then b30 n s (ix5 d b e a c) else s.main_v84_9 (ix6 n' d b e a c) := by
  have h39 : b39 n s (ix6 0 d b e a c) = b30 n s (ix5 d b e a c) := by pointwise [b39]
  rw [← h39]
  exact chunk_write hn s.main_v84_9 _ _ _ (starts hn) _ _ _ _ _ _

/-- A trip changes neither the tokens nor the tables. -/
theorem states_fixed (X : Tokens.Idx → EReal) (L : Heads.Idx → EReal) : ∀ n,
    (states (F := Ideal) X L n).main_v84_0 = A_main_v78 X L ∧ (states (F := Ideal) X L n).main_v84_1 = A_main_v80 X L
    ∧ (states (F := Ideal) X L n).main_v84_2 = A_main_v82 X L ∧ (states (F := Ideal) X L n).main_v84_3 = A_main_v59 X L
    ∧ (states (F := Ideal) X L n).main_v84_4 = A_main_v66 X L ∧ (states (F := Ideal) X L n).main_v84_5 = A_main_v76 X L
    ∧ (states (F := Ideal) X L n).main_v84_6 = A_main_v73 X L
  | 0 => ⟨rfl, rfl, rfl, rfl, rfl, rfl, rfl⟩
  | n + 1 => states_fixed X L n

variable {X : Tokens.Idx → EReal} {L : Heads.Idx → EReal}

/-- The state of a head after `n` trips. -/
theorem states_state (hX : RealTokens X) : ∀ (n : ℕ) (_ : n ≤ 34) (i : S2x4x4x256x512.Idx),
    (states (F := Ideal) X L n).main_v84_8 i = (stateOf X L (i 0) (i 1) (i 2) (i 3) (i 4) (128 * n) : ℝ)
  | 0, _, i => by
    show K_main_v14 (F := Ideal) i = _
    idx_vars i
    pointwise [K_main_v14, K_main_cst_0]
    rfl
  | n + 1, hn, i => by
    obtain ⟨-, f1, f2, -, -, f5, f6⟩ := states_fixed X L n
    show b38 n (states (F := Ideal) X L n) i = _
    have ih := states_state hX n (by omega) i
    idx_vars i
    pointwise [b38, b37, b36, b35, b34, b33, b32, b31]
    simp only [k_of _ hn, v_of _ hn, f1, f2, f5, f6]
    exact state_chunk _ _ _ (128 * n) _ (Equiv.refl (Fin 128)) ih (chunk_decay _ rfl rfl)
      (fun a => keys_chunk hX _ rfl rfl rfl rfl rfl rfl) (fun a => key_decay _ rfl rfl rfl)
      (fun a => values_chunk hX _ rfl rfl rfl rfl rfl rfl)

/-- What a trip's tokens read. -/
theorem trip_reads (hX : RealTokens X) {n : ℕ} (hn : n < 34) (d : Fin 2) (b : Fin 4) (e : Fin 4) (a : Fin 128) (c : Fin 512) :
    b30 n (states (F := Ideal) X L n) (ix5 d b e a c) = (outOf X L d b e c (128 * n + a) : ℝ) := by
  obtain ⟨f0, f1, f2, f3, f4, -, -⟩ := states_fixed X L n
  pointwise [b30, b29, b28, b27, b26, b25, b24, b23, b22, b21]
  simp only [q_of _ hn, k_of _ hn, v_of _ hn, f0, f1, f2, f3, f4]
  exact outAt_chunk _ _ _ _ (128 * n) (Equiv.refl (Fin 128)) a
    (fun κ => queries_chunk hX _ rfl rfl rfl rfl rfl rfl) (fun κ => states_state hX n hn.le _) (query_decay _ rfl rfl rfl)
    (fun j κ => keys_chunk hX _ rfl rfl rfl rfl rfl rfl) (fun j => pair_decay _ rfl rfl rfl rfl)
    (fun j => values_chunk hX _ rfl rfl rfl rfl rfl rfl)

/-- The outputs of the chunks read so far. -/
theorem states_outs (hX : RealTokens X) : ∀ (n : ℕ) (_ : n ≤ 34) (n' : Fin 34) (_ : n'.val < n) (d : Fin 2) (b : Fin 4) (e : Fin 4)
    (a : Fin 128) (c : Fin 512),
    (states (F := Ideal) X L n).main_v84_9 (ix6 n' d b e a c) = (outOf X L d b e c (128 * n' + a) : ℝ)
  | n + 1, hn, n', hn', d, b, e, a, c => by
    show b45 n (states (F := Ideal) X L n) (ix6 n' d b e a c) = _
    rw [outs_of _ hn]
    split_ifs with h
    · rw [trip_reads hX hn, h]
    · exact states_outs hX n (by omega) n' (by omega) d b e a c

/-- The chunk axis moved back behind the heads. -/
theorem chunk_back (x : S34x2x4x4x128x512.Idx → EReal) (h : S34x2x4x4x128x512.Transposes [1, 2, 3, 0, 4, 5] S2x4x4x34x128x512)
    (n : Fin 34) (d : Fin 2) (b : Fin 4) (e : Fin 4) (a : Fin 128) (c : Fin 512) :
    transpose S2x4x4x34x128x512 [1, 2, 3, 0, 4, 5] x h (ix6 d b e n a c) = x (ix6 n d b e a c) :=
  transpose_apply _ _ _ _ _ fun k =>
    match k with | ⟨0, _⟩ => rfl | ⟨1, _⟩ => rfl | ⟨2, _⟩ => rfl | ⟨3, _⟩ => rfl | ⟨4, _⟩ => rfl | ⟨5, _⟩ => rfl

/-- The outputs in the order of the scans. -/
theorem outs_scanned (hX : RealTokens X) (h : S34x2x4x4x128x512.Transposes [1, 2, 3, 0, 4, 5] S2x4x4x34x128x512)
    (h' : S2x4x4x34x128x512.ShapeCasts S2x4x4x4352x512) (d : Fin 2) (b : Fin 4) (e : Fin 4) (p : Fin 4352) (c : Fin 512) :
    shapeCast S2x4x4x4352x512 (transpose S2x4x4x34x128x512 [1, 2, 3, 0, 4, 5] (states (F := Ideal) X L 34).main_v84_9 h) h'
      (ix5 d b e p c) = (outOf X L d b e c p : ℝ) := by
  have key := fun n' d b e a c => (chunk_back _ h n' d b e a c).trans (states_outs (L := L) hX 34 le_rfl n' n'.isLt d b e a c)
  generalize transpose S2x4x4x34x128x512 [1, 2, 3, 0, 4, 5] (states (F := Ideal) X L 34).main_v84_9 h = T at *
  pointwise
  rw [key]
  congr 2
  exact Nat.div_add_mod _ _

/-- The forward scan's first 256 outputs put behind the others. -/
theorem rolled (x : S4x4x4352x512.Idx → EReal) (h : S4x4x4352x512.Slices ![0, 0, 256, 0] S4x4x4096x512)
    (h' : S4x4x4352x512.Slices ![0, 0, 0, 0] S4x4x256x512) (hc : Shape.Concatenates [S4x4x4096x512, S4x4x256x512] S4x4x4352x512 2)
    (b : Fin 4) (e : Fin 4) (r : Fin 4352) (c : Fin 512) (p : Fin 4352) (hp : p.val = posOf 0 r) :
    concatenate S4x4x4352x512 2 [⟨S4x4x4096x512, extractStridedSlice S4x4x4096x512 ![0, 0, 256, 0] x h⟩,
      ⟨S4x4x256x512, extractStridedSlice S4x4x256x512 ![0, 0, 0, 0] x h'⟩] hc (ix4 b e r c) = x (ix4 b e p c) := by
  rw [posOf_zero] at hp
  pointwise
  split_ifs with h
  · rw [if_pos h] at hp
    exact congrArg (fun q => x (ix4 b e q c)) (Fin.ext (by rw [hp]; exact Nat.add_comm _ _))
  all_goals
    rw [if_neg h] at hp
    exact congrArg (fun q => x (ix4 b e q c)) (Fin.ext hp.symm)

/-- The heads' outputs put side by side. -/
theorem heads_joined (x : S4x4x4352x512.Idx → EReal) (h : S4x4x4352x512.Transposes [0, 2, 1, 3] S4x4352x4x512)
    (h' : S4x4352x4x512.ShapeCasts S4x4352x2048) (b : Fin 4) (r : Fin 4352) (c : Fin 2048) (e : Fin 4) (a : Fin 512)
    (he : e.val = c.val / 512) (ha : a.val = c.val % 512) :
    truncf (F := Ideal) .bf16 (shapeCast S4x4352x2048 (transpose S4x4352x4x512 [0, 2, 1, 3] x h) h') bitsLt_bf16_f32 (ix3 b r c)
      = x (ix4 b e r a) := by
  pointwise
  exact congrArg₂ (fun e a => x (ix4 b e r a)) (Fin.ext he.symm) (Fin.ext ha.symm)

/-- The forward direction's result. -/
theorem result_fwd (hX : RealTokens X) :
    R_main_v96 (F := Ideal) (states X L 34) = fun i => ((result X L 0 (i 0) (i 1) (i 2) : ℝ) : EReal) := by
  funext i
  unfold R_main_v96
  have key := outs_scanned (L := L) hX transposes_S34x2x4x4x128x512_S2x4x4x34x128x512_1_2_3_0_4_5
    shapeCasts_S2x4x4x34x128x512_S2x4x4x4352x512
  generalize shapeCast S2x4x4x4352x512 (transpose S2x4x4x34x128x512 [1, 2, 3, 0, 4, 5] (states (F := Ideal) X L 34).main_v84_9
    transposes_S34x2x4x4x128x512_S2x4x4x34x128x512_1_2_3_0_4_5) shapeCasts_S2x4x4x34x128x512_S2x4x4x4352x512 = O at *
  have one : ∀ b e p c, shapeCast S4x4x4352x512 (extractStridedSlice S1x4x4x4352x512 ![0, 0, 0, 0, 0] O
      slices_S2x4x4x4352x512_S1x4x4x4352x512_0_0_0_0_0) shapeCasts_S1x4x4x4352x512_S4x4x4352x512 (ix4 b e p c)
      = (outOf X L 0 b e c p : ℝ) := fun b e p c => by
    pointwise
    exact key 0 b e p c
  generalize shapeCast S4x4x4352x512 (extractStridedSlice S1x4x4x4352x512 ![0, 0, 0, 0, 0] O
      slices_S2x4x4x4352x512_S1x4x4x4352x512_0_0_0_0_0) shapeCasts_S1x4x4x4352x512_S4x4x4352x512 = Q at *
  idx_vars i
  have h1 : i1.val < 4352 := i1.isLt
  have h2 : i2.val < 2048 := i2.isLt
  have hp : posOf 0 i1 < 4352 := by
    rw [posOf_zero]
    split_ifs <;> omega
  refine (heads_joined _ _ _ i0 i1 i2 ⟨i2 / 512, by omega⟩ ⟨i2 % 512, by omega⟩ rfl rfl).trans ?_
  refine (rolled Q _ _ _ _ _ i1 _ ⟨posOf 0 i1, hp⟩ rfl).trans ?_
  exact one _ _ _ _

/-- The backward direction's result. -/
theorem result_bwd (hX : RealTokens X) :
    R_main_v102 (F := Ideal) (states X L 34) = fun i => ((result X L 1 (i 0) (i 1) (i 2) : ℝ) : EReal) := by
  funext i
  unfold R_main_v102
  have key := outs_scanned (L := L) hX transposes_S34x2x4x4x128x512_S2x4x4x34x128x512_1_2_3_0_4_5
    shapeCasts_S2x4x4x34x128x512_S2x4x4x4352x512
  generalize shapeCast S2x4x4x4352x512 (transpose S2x4x4x34x128x512 [1, 2, 3, 0, 4, 5] (states (F := Ideal) X L 34).main_v84_9
    transposes_S34x2x4x4x128x512_S2x4x4x34x128x512_1_2_3_0_4_5) shapeCasts_S2x4x4x34x128x512_S2x4x4x4352x512 = O at *
  idx_vars i
  pointwise
  refine (key _ _ _ _ _).trans ?_
  unfold result
  have hr : (i1.rev : ℕ) = 4351 - i1.val := by rw [Fin.val_rev]; omega
  rw [posOf_one, ← hr]
  rfl

end Cert.ReferenceIdeal.Val

end
-- ==== Proof.Rotary.lean ====
/-
The rotary embedding that a projection's queries and keys take, written out: a position's angles, and the two tables of factors.

A head has 256 channels. The first 128 turn by the token's row of the 64 by 64 grid, the last 128 by its column; within each half,
channel `q` of the first 64 and channel `q` of the last 64 are the two parts of one pair, which turns by the pair's own frequency.
The 256 tokens of context after the 4096 latents do not turn. The keys are also scaled.
-/
module

public import proofs.«01_k».proof.Proof.Tokens

@[expose] public section

set_option maxRecDepth 16384

noncomputable section

open Idealize.ShloMosaic

namespace Cert.Rotary

/-- A latent's row of the grid, for `s = 0`, or its column, for `s = 1`. -/
def place (s r : ℕ) : ℕ := if s = 0 then r / 64 else r % 64

/-- The frequency of pair `q`: a power of 10000 between 1 and 1/10000. -/
def freq (q : ℕ) : EReal :=
  Ideal.pow (Ideal.ofBits .f32 1176256512#32) (Ideal.div (-((q : ℝ) : EReal)) (Ideal.ofBits .f32 1115684864#32))

/-- The angle by which pair `q` of latent `r` turns. -/
def angle (s r q : ℕ) : EReal := ((place s r : ℝ) : EReal) * freq q

/-- The scale of the keys. -/
def keyScale : EReal := Ideal.ofBits .f32 1031798784#32

/-- The scale of the queries (`j = 0`) or of the keys (`j = 1`). -/
def scaled (j : ℕ) (x : EReal) : EReal := if j = 0 then x else x * keyScale

/-- The factor of a channel itself. -/
def cosAt (r e : ℕ) : EReal := if r < 4096 then Ideal.cos (angle (e / 128) r (e % 64)) else 1

/-- The factor of the channel that is the pair's other part. -/
def sinAt (r e : ℕ) : EReal :=
  if r < 4096 then if e % 128 < 64 then -Ideal.sin (angle (e / 128) r (e % 64)) else Ideal.sin (angle (e / 128) r (e % 64)) else 0

/-- The whole quotient by 64, as integer division that rounds down is spelled. -/
theorem quotient_spelled : ∀ r : Fin 4096,
    Scalar.select
      (IntOp.andi
        (IntOp.cmpi CmpIPredicate.ne
          (if BitVec.ofNat 32 r.val = 0 then 0 else if (BitVec.ofNat 32 r.val).msb = true then -1 else 1)
          (if (64#32 : BitVec 32) = 0 then 0 else if BitVec.msb (64#32 : BitVec 32) = true then -1 else 1 : BitVec 32))
        (IntOp.cmpi CmpIPredicate.ne (IntOp.remsi ArithUnit.host (BitVec.ofNat 32 r.val) 64#32) 0#32))
      (IntOp.subi (IntOp.divsi ArithUnit.host (BitVec.ofNat 32 r.val) 64#32) 1#32)
      (IntOp.divsi ArithUnit.host (BitVec.ofNat 32 r.val) 64#32) = BitVec.ofNat 32 (r.val / 64) := by
  decide +kernel

/-- The divisor of a remainder, as it is spelled: 64, which is not zero. -/
abbrev divisor : BitVec 32 := Scalar.select (IntOp.cmpi CmpIPredicate.eq (64#32 : BitVec 32) 0#32) (1#32) (64#32)

/-- The remainder by 64, as the remainder that takes the divisor's sign is spelled. -/
theorem remainder_spelled : ∀ r : Fin 4096,
    Scalar.select
      (IntOp.andi
        (IntOp.cmpi CmpIPredicate.ne
          (IntOp.cmpi CmpIPredicate.slt (IntOp.remsi ArithUnit.host (BitVec.ofNat 32 r.val) divisor) 0#32)
          (IntOp.cmpi CmpIPredicate.slt divisor 0#32))
        (IntOp.cmpi CmpIPredicate.ne (IntOp.remsi ArithUnit.host (BitVec.ofNat 32 r.val) divisor) 0#32))
      (IntOp.addi (IntOp.remsi ArithUnit.host (BitVec.ofNat 32 r.val) divisor) divisor)
      (IntOp.remsi ArithUnit.host (BitVec.ofNat 32 r.val) divisor) = BitVec.ofNat 32 (r.val % 64) := by
  decide +kernel

/-- A spelled angle: the place as an integer read as a number, times the frequency. -/
theorem angle_spelled {v : BitVec 32} {s r q u : ℕ} (hv : v = BitVec.ofNat 32 (place s r)) (hr : r < 4096) (hq : q < 64) (hu : u = q) :
    FloatOps.sitofp (F := Ideal) .f32 v * Ideal.pow (Ideal.ofBits .f32 1176256512#32)
      (Ideal.div (-FloatOps.sitofp (F := Ideal) .f32 (BitVec.ofNat 32 q)) (Ideal.ofBits .f32 1115684864#32)) = angle s r u := by
  have hp : place s r < 2 ^ 31 := by unfold place; split_ifs <;> omega
  rw [hv, hu, Retention.sitofp_ofNat hp, Retention.sitofp_ofNat (show q < 2 ^ 31 by omega)]
  rfl

/-- A value given by the quarter of a head that the channel is in. -/
theorem quarters {e : ℕ} {y : EReal} {A : e < 64 → EReal} {B : ¬ e < 64 → e - 64 < 64 → EReal}
    {C : ¬ e < 64 → ¬ e - 64 < 64 → e - 64 - 64 < 64 → EReal} {D : ¬ e < 64 → ¬ e - 64 < 64 → ¬ e - 64 - 64 < 64 → EReal}
    (hA : ∀ h, A h = y) (hB : ∀ h h', B h h' = y) (hC : ∀ h h' k, C h h' k = y) (hD : ∀ h h' k, D h h' k = y) :
    (if h : e < 64 then A h else if h' : e - 64 < 64 then B h h' else if k : e - 64 - 64 < 64 then C h h' k else D h h' k) = y := by
  by_cases h : e < 64
  · rw [dif_pos h, hA]
  · by_cases h' : e - 64 < 64
    · rw [dif_neg h, dif_pos h', hB]
    · by_cases k : e - 64 - 64 < 64
      · rw [dif_neg h, dif_neg h', dif_pos k, hC]
      · rw [dif_neg h, dif_neg h', dif_neg k, hD]

/-- The queries' table above the keys', each the latents' rows above the context's. -/
theorem stacked {j r : ℕ} {x y : EReal} {A C : r < 4096 → EReal} {B D : ¬ r < 4096 → EReal}
    (hA : ∀ h, A h = x) (hB : ∀ h, B h = y) (hC : ∀ h, C h = x) (hD : ∀ h, D h = y) :
    (if _h : j < 1 then if h : r < 4096 then A h else B h else (if h : r < 4096 then C h else D h) * keyScale)
      = scaled j (if r < 4096 then x else y) := by
  unfold scaled
  by_cases hj : j < 1 <;> by_cases hr : r < 4096
  · rw [dif_pos hj, dif_pos hr, if_pos (by omega), if_pos hr, hA]
  · rw [dif_pos hj, dif_neg hr, if_pos (by omega), if_neg hr, hB]
  · rw [dif_neg hj, dif_pos hr, if_neg (by omega), if_pos hr, hC]
  · rw [dif_neg hj, dif_neg hr, if_neg (by omega), if_neg hr, hD]

end Cert.Rotary

end
-- ==== Proof.ProjectionTables.lean ====
/-
The kernel's two tables of rotary factors, at an index: the queries' and the keys', for each token of the sequence and channel of a head.
-/
module

public import proofs.«01_k».proof.Proof.Gen.ProjectionIdeal.Value
public import proofs.«01_k».proof.Proof.Rotary
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ProjectionIdeal.Val

open Cert.ProjectionIdeal Cert.ProjectionIdeal.Gen Cert.Rotary

variable (m : (ℓ : Loc nD τ sig) → Buf (Elt Ideal) ℓ)

set_option maxHeartbeats 1600000 in
/-- The latents' factors of a channel itself. -/
theorem cos_latents (c : Dev nD) (i : S4096x256.Idx) :
    StableHlo.upto [hostOps0, hostOps0_1, hostOps0_2, hostOps0_3, hostOps0_4].flatten (fun b => m (c, b)) 71 (Proc.tc.devRef main_v28) i
      = Ideal.cos (angle ((i 1).val / 128) (i 0).val ((i 1).val % 64)) := by
  after_reads_at
  idx_vars i
  have b0 : i0.val < 4096 := i0.isLt
  have b1 : i1.val < 256 := i1.isLt
  simp only [StableHlo.unary_result']
  after_reads_at
  show _ = Ideal.cos (angle (i1.val / 128) i0.val (i1.val % 64))
  refine quarters (fun h => ?_) (fun h h' => ?_) (fun h h' k => ?_) (fun h h' k => ?_)
  all_goals refine congrArg Ideal.cos ?_
  · exact angle_spelled ((quotient_spelled i0).trans (by rw [place, if_pos (by omega)])) b0 (by omega) (by omega)
  · exact angle_spelled ((quotient_spelled i0).trans (by rw [place, if_pos (by omega)])) b0 (by omega) (by omega)
  · exact angle_spelled ((remainder_spelled i0).trans (by rw [place, if_neg (by omega)])) b0 (by omega) (by omega)
  · exact angle_spelled ((remainder_spelled i0).trans (by rw [place, if_neg (by omega)])) b0 (by omega) (by omega)

set_option maxHeartbeats 1600000 in
/-- The latents' factors of the pair's other part. -/
theorem sin_latents (c : Dev nD) (i : S4096x256.Idx) :
    StableHlo.upto [hostOps0, hostOps0_1, hostOps0_2, hostOps0_3, hostOps0_4].flatten (fun b => m (c, b)) 75 (Proc.tc.devRef main_v31) i
      = if (i 1).val % 128 < 64 then -Ideal.sin (angle ((i 1).val / 128) (i 0).val ((i 1).val % 64))
        else Ideal.sin (angle ((i 1).val / 128) (i 0).val ((i 1).val % 64)) := by
  after_reads_at
  idx_vars i
  have b0 : i0.val < 4096 := i0.isLt
  have b1 : i1.val < 256 := i1.isLt
  simp only [StableHlo.unary_result']
  after_reads_at
  show _ = if i1.val % 128 < 64 then -Ideal.sin (angle (i1.val / 128) i0.val (i1.val % 64))
    else Ideal.sin (angle (i1.val / 128) i0.val (i1.val % 64))
  refine quarters (fun h => ?_) (fun h h' => ?_) (fun h h' k => ?_) (fun h h' k => ?_)
  · refine Eq.trans ?_ (if_pos (by omega)).symm
    exact congrArg (-Ideal.sin ·) (angle_spelled ((quotient_spelled i0).trans (by rw [place, if_pos (by omega)])) b0 (by omega) (by omega))
  · refine Eq.trans ?_ (if_neg (by omega)).symm
    exact congrArg Ideal.sin (angle_spelled ((quotient_spelled i0).trans (by rw [place, if_pos (by omega)])) b0 (by omega) (by omega))
  · refine Eq.trans ?_ (if_pos (by omega)).symm
    exact congrArg (-Ideal.sin ·) (angle_spelled ((remainder_spelled i0).trans (by rw [place, if_neg (by omega)])) b0 (by omega) (by omega))
  · refine Eq.trans ?_ (if_neg (by omega)).symm
    exact congrArg Ideal.sin (angle_spelled ((remainder_spelled i0).trans (by rw [place, if_neg (by omega)])) b0 (by omega) (by omega))

/-- The factors of a channel itself. -/
theorem cos_eq (c : Dev nD) (i : S2x4352x256.Idx) {j r e : ℕ} (hj : (i 0 : ℕ) = j) (hr : (i 1 : ℕ) = r) (he : (i 2 : ℕ) = e) :
    V m c main_v38 i = scaled j (cosAt r e) := by
  subst hj hr he
  unfold V
  after_reads_at
  idx_vars i
  refine stacked (fun _ => cos_latents m c _) (fun _ => ?_) (fun _ => cos_latents m c _) fun _ => ?_
  all_goals after_reads_at

/-- The factors of the pair's other part. -/
theorem sin_eq (c : Dev nD) (i : S2x4352x256.Idx) {j r e : ℕ} (hj : (i 0 : ℕ) = j) (hr : (i 1 : ℕ) = r) (he : (i 2 : ℕ) = e) :
    V m c main_v43 i = scaled j (sinAt r e) := by
  subst hj hr he
  unfold V
  after_reads_at
  idx_vars i
  refine stacked (fun _ => sin_latents m c _) (fun _ => ?_) (fun _ => sin_latents m c _) fun _ => ?_
  all_goals after_reads_at

end Cert.ProjectionIdeal.Val

end
-- ==== Proof.Projected.lean ====
/-
The projection, written out: every token's product with the weights, and the rotary embedding of its queries and keys.

Coordinates are plain numbers: token `n` is row `n % 4352` of batch element `n / 4352`, and channel `c` is a query below 1024, a key
below 2048, and a value or a gate after that.
-/
module

public import proofs.«01_k».proof.Proof.Rotary

@[expose] public section

noncomputable section

open Idealize.ShloMosaic

namespace Cert.Rotary

/-- The tokens: batch, row, channel. -/
abbrev Inputs : Shape := ⟨3, ![4, 4352, 1024]⟩

/-- The weights of `L` layers: layer, channel, projected channel. -/
abbrev Weights (L C : ℕ) : Shape := ⟨3, ![L, 1024, C]⟩

variable {L C : ℕ} (H : Inputs.Idx → EReal) (W : (Weights L C).Idx → EReal)

/-- Channel `k` of token `n` (nothing outside the array). -/
def token (n k : ℕ) : EReal :=
  if h : n / 4352 < 4 ∧ k < 1024 then H (ix3 ⟨n / 4352, h.1⟩ ⟨n % 4352, Nat.mod_lt _ (by decide)⟩ ⟨k, h.2⟩) else 0

/-- The first layer's weight from channel `k` to projected channel `c`. -/
def weightAt (k c : ℕ) : EReal :=
  if h : 0 < L ∧ k < 1024 ∧ c < C then W (ix3 ⟨0, h.1⟩ ⟨k, h.2.1⟩ ⟨c, h.2.2⟩) else 0

/-- A token's projection, before the rotary embedding. -/
def product (n c : ℕ) : EReal := ∑ k : Fin 1024, token H n k * weightAt W k c

/-- The channel that is the pair's other part. -/
def partner (c : ℕ) : ℕ := if c % 128 < 64 then c + 64 else c - 64

/-- A token's projection. -/
def projected (n c : ℕ) : EReal :=
  if c < 2048 then
    product H W n c * scaled (c / 1024) (cosAt (n % 4352) (c % 256))
      + product H W n (partner c) * scaled (c / 1024) (sinAt (n % 4352) (c % 256))
  else product H W n c

variable {H W}

theorem token_eq (j : Inputs.Idx) {n k : ℕ} (hb : (j 0 : ℕ) = n / 4352) (hr : (j 1 : ℕ) = n % 4352) (hk : (j 2 : ℕ) = k) :
    H j = token H n k := by
  have h : n / 4352 < 4 ∧ k < 1024 := ⟨hb ▸ (j 0).isLt, hk ▸ (j 2).isLt⟩
  rw [token, dif_pos h]
  congr 1
  funext a
  fin_cases a <;> exact Fin.ext (by assumption)

theorem weightAt_eq (j : (Weights L C).Idx) {k c : ℕ} (h0 : (j 0 : ℕ) = 0) (hk : (j 1 : ℕ) = k) (hc : (j 2 : ℕ) = c) :
    W j = weightAt W k c := by
  have h : 0 < L ∧ k < 1024 ∧ c < C := ⟨Nat.zero_lt_of_lt (j 0).isLt, hk ▸ (j 1).isLt, hc ▸ (j 2).isLt⟩
  rw [weightAt, dif_pos h]
  congr 1
  funext a
  fin_cases a <;> exact Fin.ext (by assumption)

/-! The projection, part by part. -/

/-- The keys' scale is 1/16. -/
theorem keyScale_eq : keyScale = ((1 / 16 : ℝ) : EReal) := by
  unfold keyScale
  simp [Ideal.ofBits, Ideal.ieee, -EReal.coe_mul]; norm_num

/-- The keys' scale multiplies a sum term by term. -/
theorem add_mul_keyScale (x y : EReal) : (x + y) * keyScale = x * keyScale + y * keyScale := by
  have h0 : (0 : EReal) ≤ keyScale := by rw [keyScale_eq]; exact EReal.coe_nonneg.mpr (by norm_num)
  have h1 : keyScale ≠ ⊤ := by rw [keyScale_eq]; exact EReal.coe_ne_top _
  exact EReal.right_distrib_of_nonneg_of_ne_top h0 h1 x y

variable (H W)

/-- A query. -/
theorem projected_query {n c : ℕ} (hc : c < 1024) :
    projected H W n c
      = product H W n c * cosAt (n % 4352) (c % 256) + product H W n (partner c) * sinAt (n % 4352) (c % 256) := by
  rw [projected, if_pos (by omega), scaled, scaled, if_pos (by omega), if_pos (by omega)]

/-- A key. -/
theorem projected_key {n c : ℕ} (hc : c < 1024) :
    projected H W n (1024 + c)
      = (product H W n (1024 + c) * cosAt (n % 4352) (c % 256)
          + product H W n (1024 + partner c) * sinAt (n % 4352) (c % 256)) * keyScale := by
  rw [projected, if_pos (by omega), scaled, scaled, if_neg (by omega), if_neg (by omega), add_mul_keyScale, mul_assoc, mul_assoc,
    show (1024 + c) % 256 = c % 256 by omega, show partner (1024 + c) = 1024 + partner c by unfold partner; split_ifs <;> omega]

/-- A query of the context. -/
theorem context_query {n c : ℕ} (hc : c < 1024) (hn : 4096 ≤ n % 4352) : projected H W n c = product H W n c := by
  rw [projected_query H W hc, cosAt, sinAt, if_neg (by omega), if_neg (by omega), mul_one, mul_zero, add_zero]

/-- A key of the context. -/
theorem context_key {n c : ℕ} (hc : c < 1024) (hn : 4096 ≤ n % 4352) :
    projected H W n (1024 + c) = product H W n (1024 + c) * keyScale := by
  rw [projected_key H W hc, cosAt, sinAt, if_neg (by omega), if_neg (by omega), mul_one, mul_zero, add_zero]

/-- A value or a gate. -/
theorem projected_plain {n c : ℕ} (hc : 2048 ≤ c) : projected H W n c = product H W n c := by
  rw [projected, if_neg (by omega)]

end Cert.Rotary

end
-- ==== Proof.ProjectionBlocks.lean ====
/-
What each block of a grid point of the projection holds.

The grid has 96 points: point `t` takes the 1088 tokens from `1088 * (t % 16)` and the 1024 projected channels from
`1024 * (t / 16)`.
-/
module

public import proofs.«01_k».proof.Proof.ProjectionTables
public import proofs.«01_k».proof.Proof.Projected

@[expose] public section

set_option maxRecDepth 16384

noncomputable section

open Idealize.ShloMosaic Idealize.ShloMosaic.TcCoe Idealize.SL.Sem
open Idealize.ShloMosaic.Pipeline (Dat)

namespace Cert.ProjectionIdeal.Val

open Cert.ProjectionIdeal Cert.ProjectionIdeal.Gen Cert.Rotary

variable (m : (ℓ : Loc nD τ sig) → Buf (Elt Ideal) ℓ)

/-- The tokens' array. -/
abbrev inputs (c : Dev nD) : Inputs.Idx → EReal := m ((c.tc : Thread nD τ).loc main_arg0)

/-- The weights' array. -/
abbrev weights (c : Dev nD) : (Weights 2 6144).Idx → EReal := m ((c.tc : Thread nD τ).loc main_arg1)

theorem idx_blocks : ∀ t : Fin cfg0.N,
    win0_0.index t = ![t.val % 16, 0]
      ∧ win0_1.index t = ![0, 0, t.val / 16]
      ∧ win0_2.index t = ![if t.val / 16 = 0 then 0 else 1, t.val % 16 % 4, 0]
      ∧ win0_3.index t = ![if t.val / 16 = 0 then 0 else 1, t.val % 16 % 4, 0]
      ∧ win0_4.index t = ![t.val % 16, t.val / 16] :=
  (by decide +kernel : ∀ t : Fin grid0.N, _)

/-- The tokens in a row, at an index. -/
theorem rows_eq (c : Dev nD) (i : S17408x1024.Idx) {n k : ℕ} (hn : (i 0 : ℕ) = n) (hk : (i 1 : ℕ) = k) :
    V m c main_v0 i = token (inputs m c) n k := by
  subst hn hk
  have b0 : (i 0 : ℕ) < 17408 := (i 0).isLt
  have b1 : (i 1 : ℕ) < 1024 := (i 1).isLt
  unfold V
  after_reads_at
  exact token_eq _ rfl rfl rfl

variable {m}
variable {c : Dev nD} (t : Fin cfg0.N)

theorem token_blk (i : S1088x1024.Idx) {a k : ℕ} (ha : (i 0 : ℕ) = a) (hk : (i 1 : ℕ) = k) :
    iblk m c 0 t i = token (inputs m c) (1088 * (t.val % 16) + a) k := by
  blk_simp [iblk]
  refine rows_eq m c _ ?_ ?_
  all_goals blk_simp [idx_blocks t]
  all_goals omega

theorem weight_blk (i : S1x1024x1024.Idx) {k e : ℕ} (hk : (i 1 : ℕ) = k) (he : (i 2 : ℕ) = e) :
    iblk m c 1 t i = weightAt (weights m c) k (1024 * (t.val / 16) + e) := by
  have hi : (i 0 : ℕ) < 1 := (i 0).isLt
  blk_simp [iblk]
  refine weightAt_eq _ ?_ ?_ ?_
  all_goals blk_simp [idx_blocks t]
  all_goals omega

theorem cos_blk (ht : t.val < 32) (i : S1x1088x256.Idx) {a e : ℕ} (ha : (i 1 : ℕ) = a) (he : (i 2 : ℕ) = e) :
    iblk m c 2 t i = scaled (t.val / 16) (cosAt ((1088 * (t.val % 16) + a) % 4352) e) := by
  have hi : (i 0 : ℕ) < 1 := (i 0).isLt
  have hi1 : (i 1 : ℕ) < 1088 := (i 1).isLt
  blk_simp [iblk]
  refine cos_eq m c _ ?_ ?_ ?_
  all_goals blk_simp [idx_blocks t]
  all_goals first | omega | (split_ifs <;> omega)

theorem sin_blk (ht : t.val < 32) (i : S1x1088x256.Idx) {a e : ℕ} (ha : (i 1 : ℕ) = a) (he : (i 2 : ℕ) = e) :
    iblk m c 3 t i = scaled (t.val / 16) (sinAt ((1088 * (t.val % 16) + a) % 4352) e) := by
  have hi : (i 0 : ℕ) < 1 := (i 0).isLt
  have hi1 : (i 1 : ℕ) < 1088 := (i 1).isLt
  blk_simp [iblk]
  refine sin_eq m c _ ?_ ?_ ?_
  all_goals blk_simp [idx_blocks t]
  all_goals first | omega | (split_ifs <;> omega)

end Cert.ProjectionIdeal.Val

end
-- ==== Proof.ProjectionValue.lean ====
/-
What the projection's kernel computes.

The first point of a run of 16 keeps the run's weights, and the run's points read them there. A point multiplies its tokens with them,
and the points of the queries and keys then turn each pair of channels.
-/
module

public import proofs.«01_k».proof.Proof.ProjectionBlocks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjectionIdeal.Val

open Cert.ProjectionIdeal Cert.ProjectionIdeal.Gen Cert.Rotary

variable {m : (ℓ : Loc nD τ sig) → Buf (Elt Ideal) ℓ}
variable {c : Dev nD}

/-- The weights that a grid point's run reads. -/
def keeps (m : (ℓ : Loc nD τ sig) → Buf (Elt Ideal) ℓ) (c : Dev nD) (n : ℕ) (x : S1024x1024.Idx → EReal) : Prop :=
  ∀ (y : S1024x1024.Idx) {k e : ℕ}, (y 0 : ℕ) = k → (y 1 : ℕ) = e → x y = weightAt (weights m c) k (1024 * (n / 16) + e)

/-- A block of tokens times the run's weights. -/
theorem product_eq (t : Fin cfg0.N) {x : S1024x1024.Idx → EReal} (hx : keeps m c t.val x) (y : S1088x1024.Idx) {a e : ℕ}
    (ha : (y 0 : ℕ) = a) (he : (y 1 : ℕ) = e) :
    k0_pay2 (F := Ideal) (iblk m c 0 t) x y
      = product (inputs m c) (weights m c) (1088 * (t.val % 16) + a) (1024 * (t.val / 16) + e) := by
  subst ha he
  pointwise [k0_pay2]
  refine Finset.sum_congr rfl fun k _ => ?_
  rw [token_blk t _ rfl rfl, hx _ rfl rfl]
  rfl

attribute [local irreducible] iblk

/-- If the point before kept the run's weights, or the point is the run's first, the point keeps them. -/
theorem kept_step (t : Fin cfg0.N)
    (hprev : ¬ t.val % 16 = 0 → ∀ hp : t.val - 1 < cfg0.N, keeps m c (t.val - 1) (outsAt0 m c (t.val - 1) hp).2) :
    keeps m c t.val (outsAt0 m c t.val t.isLt).2 := by
  intro y k e hk he
  by_cases h0 : t.val % 16 = 0
  · by_cases h1 : t.val < 32
    case' pos => rw [outsAt0_A m c t h0 h1 (by omega)]
    case' neg => rw [outsAt0_C m c t h0 h1 (by omega)]
    all_goals
      frame_open
      frame_out
      pointwise [k0_pay1]
      exact weight_blk t _ hk he
  · refine Eq.trans ?_ ((hprev h0 (Nat.lt_of_le_of_lt (Nat.sub_le _ _) t.isLt) y hk he).trans
      (by rw [show (t.val - 1) / 16 = t.val / 16 by omega]))
    by_cases h1 : t.val < 32
    · rw [outsAt0_B m c t h0 h1 (by omega)]
      rfl
    · rw [outsAt0_D m c t h0 h1 (by omega)]
      rfl

/-- After a point, the run's weights are kept. -/
theorem kept_eq : ∀ (n : ℕ) (hn : n < cfg0.N), keeps m c n (outsAt0 m c n hn).2
  | 0, hn => kept_step ⟨0, hn⟩ fun h => absurd rfl h
  | n + 1, hn => kept_step ⟨n + 1, hn⟩ fun _ _ => kept_eq n (Nat.lt_of_succ_lt hn)

/-- A channel and the pair's other part, each times its factor. -/
theorem turned (t : Fin cfg0.N) (ht : t.val < 32) {x : S1024x1024.Idx → EReal} (hx : keeps m c t.val x) {z z' : S1088x1024.Idx}
    {u u' : S1x1088x256.Idx} {a e : ℕ} (he : e < 1024) (hz : (z 0 : ℕ) = a ∧ (z 1 : ℕ) = e)
    (hz' : (z' 0 : ℕ) = a ∧ (z' 1 : ℕ) = 128 * (e / 128) + (e + 64) % 128) (hu : (u 1 : ℕ) = a ∧ (u 2 : ℕ) = e % 256)
    (hu' : (u' 1 : ℕ) = a ∧ (u' 2 : ℕ) = e % 256) :
    k0_pay2 (F := Ideal) (iblk m c 0 t) x z * iblk m c 2 t u + k0_pay2 (F := Ideal) (iblk m c 0 t) x z' * iblk m c 3 t u'
      = projected (inputs m c) (weights m c) (1088 * (t.val % 16) + a) (1024 * (t.val / 16) + e) := by
  rw [projected, if_pos (by omega), product_eq t hx z hz.1 hz.2, product_eq t hx z' hz'.1 hz'.2, cos_blk t ht u hu.1 hu.2,
    sin_blk t ht u' hu'.1 hu'.2, show (1024 * (t.val / 16) + e) / 1024 = t.val / 16 by omega,
    show (1024 * (t.val / 16) + e) % 256 = e % 256 by omega,
    show partner (1024 * (t.val / 16) + e) = 1024 * (t.val / 16) + (128 * (e / 128) + (e + 64) % 128) by
      unfold partner; split_ifs <;> omega]

/-- What a point writes to the result's block. -/
theorem outs_eq (t : Fin cfg0.N) (y : S1088x1024.Idx) {a e : ℕ} (ha : (y 0 : ℕ) = a) (he : (y 1 : ℕ) = e) :
    (outsAt0 m c t.val t.isLt).1 y
      = projected (inputs m c) (weights m c) (1088 * (t.val % 16) + a) (1024 * (t.val / 16) + e) := by
  have hp : ¬ t.val % 16 = 0 → ∀ hp : t.val - 1 < cfg0.N, keeps m c t.val (outsAt0 m c (t.val - 1) hp).2 := by
    intro h hp y k e hk he
    exact (kept_eq _ hp y hk he).trans (by rw [show (t.val - 1) / 16 = t.val / 16 by omega])
  have fresh : t.val % 16 = 0 → keeps m c t.val (k0_pay1 (iblk m c 1 t)) := by
    intro _ y k e hk he
    pointwise [k0_pay1]
    exact weight_blk t _ hk he
  have hy : (y 1 : ℕ) < 1024 := (y 1).isLt
  by_cases h1 : t.val < 32
  · by_cases h0 : t.val % 16 = 0
    case' pos =>
      rw [outsAt0_A m c t h0 h1 (by omega)]
      frame_open
      simp (disch := decide) only [↓ View.readCov_skip, ↓ View.readCov_cons_toLoadRect, ↓ View.readCov_fill]
      frame_out
      have hx := fresh h0
      generalize k0_pay1 (iblk m c 1 t) = w at hx ⊢
    case' neg =>
      rw [outsAt0_B m c t h0 h1 (by omega)]
      frame_out
      simp only [read_unread_whole]
      have hx := hp h0 (Nat.lt_of_le_of_lt (Nat.sub_le _ _) t.isLt)
      generalize (outsAt0 m c (t.val - 1) (Nat.lt_of_le_of_lt (Nat.sub_le _ _) t.isLt)).2 = w at hx ⊢
    all_goals canon_tiles z p
    all_goals
      pointwise [k0_pay3, k0_pay4, k0_pay5, k0_pay7, k0_pay8, k0_pay9, k0_pay10, k0_pay11, k0_pay12, k0_pay13, k0_pay14]
      refine turned t h1 hx (he ▸ hy) ⟨?_, ?_⟩ ⟨?_, ?_⟩ ⟨?_, ?_⟩ ⟨?_, ?_⟩
      all_goals blk_simp
      all_goals try dsimp only
      all_goals omega
  · by_cases h0 : t.val % 16 = 0
    case' pos =>
      rw [outsAt0_C m c t h0 h1 (by omega)]
      frame_open
      simp (disch := decide) only [↓ View.readCov_skip, ↓ View.readCov_cons_toLoadRect, ↓ View.readCov_fill]
      frame_out
      have hx := fresh h0
      generalize k0_pay1 (iblk m c 1 t) = w at hx ⊢
    case' neg =>
      rw [outsAt0_D m c t h0 h1 (by omega)]
      frame_out
      simp only [read_unread_whole]
      have hx := hp h0 (Nat.lt_of_le_of_lt (Nat.sub_le _ _) t.isLt)
      generalize (outsAt0 m c (t.val - 1) (Nat.lt_of_le_of_lt (Nat.sub_le _ _) t.isLt)).2 = w at hx ⊢
    all_goals
      rw [projected, if_neg (by omega)]
      exact product_eq t hx y ha he

end Cert.ProjectionIdeal.Val

end
-- ==== Proof.ProjectionFinal.lean ====
/-
The projection's array after the run: the blocks that the points write back tile it, and each holds the projection.
-/
module

public import proofs.«01_k».proof.Proof.ProjectionValue

@[expose] public section

set_option maxRecDepth 16384

noncomputable section

open Idealize.ShloMosaic Idealize.ShloMosaic.TcCoe Idealize.SL.Sem
open Idealize.ShloMosaic.Pipeline (Dat)

namespace Cert.ProjectionIdeal.Val

open Cert.ProjectionIdeal Cert.ProjectionIdeal.Gen Cert.Rotary

variable (m : (ℓ : Loc nD τ sig) → Buf (Elt Ideal) ℓ) (c : Dev nD)

/-- The kernel's array after the run. -/
theorem final_eq : (dats m 0 c).arrAt 4 cfg0.N
    = fun i : S17408x6144.Idx => projected (inputs m c) (weights m c) (i 0 : ℕ) (i 1 : ℕ) := by
  refine (dats m 0 c).arrAt_eq_of_covers 4 _ (by decide +kernel) fun t _ y => ?_
  blk_simp
  rw [after0_4]
  refine (outs_eq t y rfl rfl).trans ?_
  congr 1
  all_goals blk_simp [idx_blocks t]
  all_goals omega

end Cert.ProjectionIdeal.Val

end
-- ==== Proof.ProjectionReference.lean ====
/-
The projection's reference computes the same projection: the products of the latents and of the context, the queries and keys of the
latents turned, and the parts put side by side.
-/
module

public import proofs.«01_k».proof.Proof.Gen.ProjectionReferenceIdeal.Run
public import proofs.«01_k».proof.Proof.Projected
public import Idealize.ShloMosaic.Lib.Pointwise

@[expose] public section

set_option maxRecDepth 16384

noncomputable section

namespace Cert.ProjectionReferenceIdeal.Val

open Idealize.ShloMosaic Idealize.ShloMosaic.TcCoe Idealize.SL.Sem
open Cert.ProjectionReferenceIdeal Cert.ProjectionReferenceIdeal.Value Cert.Rotary

/-! The two steps of the embedding, on any arrays. -/

/-- What a half's channel becomes: itself and the pair's other part, each times its factor. -/
def halfAt (P : S4x4096x4x128.Idx → EReal) (C S : S1x4096x1x64.Idx → EReal) (b : Fin 4) (r : Fin 4096) (h : Fin 4) (e : Fin 128) : EReal :=
  P (ix4 b r h e) * C (ix4 0 r 0 ⟨e.val % 64, Nat.mod_lt _ (by decide)⟩)
    + P (ix4 b r h ⟨(e.val + 64) % 128, Nat.mod_lt _ (by decide)⟩)
      * (if e.val < 64 then -S (ix4 0 r 0 ⟨e.val % 64, Nat.mod_lt _ (by decide)⟩)
          else S (ix4 0 r 0 ⟨e.val % 64, Nat.mod_lt _ (by decide)⟩))

/-- One half of a head turned. -/
theorem half_turned (P : S4x4096x4x128.Idx → EReal) (C S : S1x4096x1x64.Idx → EReal)
    (h0 : S4x4096x4x128.Slices ![0, 0, 0, 0] S4x4096x4x64) (h1 : S4x4096x4x128.Slices ![0, 0, 0, 64] S4x4096x4x64)
    (hb : S1x4096x1x64.BroadcastsInDim S4x4096x4x64 ![0, 1, 2, 3])
    (hc : Shape.Concatenates [S4x4096x4x64, S4x4096x4x64] S4x4096x4x128 3) (b : Fin 4) (r : Fin 4096) (h : Fin 4) (e : Fin 128) :
    concatenate S4x4096x4x128 3
        [⟨S4x4096x4x64, subf (F := Ideal) (φ := .f32)
            (mulf (extractStridedSlice S4x4096x4x64 ![0, 0, 0, 0] P h0) (broadcastInDim S4x4096x4x64 ![0, 1, 2, 3] hb C))
            (mulf (extractStridedSlice S4x4096x4x64 ![0, 0, 0, 64] P h1) (broadcastInDim S4x4096x4x64 ![0, 1, 2, 3] hb S))⟩,
          ⟨S4x4096x4x64, addf (F := Ideal) (φ := .f32)
            (mulf (extractStridedSlice S4x4096x4x64 ![0, 0, 0, 0] P h0) (broadcastInDim S4x4096x4x64 ![0, 1, 2, 3] hb S))
            (mulf (extractStridedSlice S4x4096x4x64 ![0, 0, 0, 64] P h1) (broadcastInDim S4x4096x4x64 ![0, 1, 2, 3] hb C))⟩]
        hc (ix4 b r h e)
      = halfAt P C S b r h e := by
  have he : e.val < 128 := e.isLt
  unfold halfAt
  pointwise
  by_cases h1 : e.val < 64
  · rw [dif_pos h1, if_pos h1, mul_neg, sub_eq_add_neg]
    simp only [Nat.mod_eq_of_lt h1, show (e.val + 64) % 128 = 64 + e.val by omega]
  · rw [dif_neg h1, if_neg h1, add_comm]
    simp only [show (e.val + 64) % 128 = e.val - 64 by omega, show 64 + (e.val - 64) = e.val by omega, show e.val % 64 = e.val - 64 by omega]

/-- A head turned, half by half. -/
theorem head_joined (A B : S4x4096x4x128.Idx → EReal)
    (hc : Shape.Concatenates [S4x4096x4x128, S4x4096x4x128] S4x4096x4x256 3) (b : Fin 4) (r : Fin 4096) (h : Fin 4) (e : Fin 256) :
    concatenate S4x4096x4x256 3 [⟨S4x4096x4x128, A⟩, ⟨S4x4096x4x128, B⟩] hc (ix4 b r h e)
      = if e.val < 128 then A (ix4 b r h ⟨e.val % 128, Nat.mod_lt _ (by decide)⟩)
        else B (ix4 b r h ⟨e.val % 128, Nat.mod_lt _ (by decide)⟩) := by
  have he : e.val < 256 := e.isLt
  pointwise
  by_cases h1 : e.val < 128
  · rw [dif_pos h1, if_pos h1]
    exact congrArg (fun q => A (ix4 b r h q)) (Fin.ext (Nat.mod_eq_of_lt h1).symm)
  · rw [dif_neg h1, if_neg h1]
    exact congrArg (fun q => B (ix4 b r h q)) (Fin.ext (show e.val - 128 = e.val % 128 by omega))

/-- A head turned. -/
theorem head_turned (P : S4x4096x4x256.Idx → EReal) (C S C' S' : S1x4096x1x64.Idx → EReal)
    (g0 : S4x4096x4x256.Slices ![0, 0, 0, 0] S4x4096x4x128) (g1 : S4x4096x4x256.Slices ![0, 0, 0, 128] S4x4096x4x128)
    (A B : S4x4096x4x128.Idx → EReal) (hc : Shape.Concatenates [S4x4096x4x128, S4x4096x4x128] S4x4096x4x256 3)
    (b : Fin 4) (r : Fin 4096) (h : Fin 4)
    (hA : ∀ e : Fin 128, A (ix4 b r h e) = halfAt (extractStridedSlice S4x4096x4x128 ![0, 0, 0, 0] P g0) C S b r h e)
    (hB : ∀ e : Fin 128, B (ix4 b r h e) = halfAt (extractStridedSlice S4x4096x4x128 ![0, 0, 0, 128] P g1) C' S' b r h e)
    (hC : ∀ q : Fin 64, C (ix4 0 r 0 q) = Ideal.cos (angle 0 r q)) (hS : ∀ q : Fin 64, S (ix4 0 r 0 q) = Ideal.sin (angle 0 r q))
    (hC' : ∀ q : Fin 64, C' (ix4 0 r 0 q) = Ideal.cos (angle 1 r q)) (hS' : ∀ q : Fin 64, S' (ix4 0 r 0 q) = Ideal.sin (angle 1 r q))
    (e e' : Fin 256) (he' : partner e = e') :
    concatenate S4x4096x4x256 3 [⟨S4x4096x4x128, A⟩, ⟨S4x4096x4x128, B⟩] hc (ix4 b r h e)
      = P (ix4 b r h e) * cosAt r e + P (ix4 b r h e') * sinAt r e := by
  have he : e.val < 256 := e.isLt
  have q : e'.val = 128 * (e.val / 128) + (e.val % 128 + 64) % 128 := by
    rw [← he', partner]
    split_ifs <;> omega
  rw [head_joined, cosAt, sinAt, if_pos r.isLt, if_pos r.isLt]
  by_cases h1 : e.val < 128
  · rw [if_pos h1, hA, halfAt, hC, hS, show e.val / 128 = 0 by omega]
    pointwise
    simp only [show e.val % 128 % 64 = e.val % 64 by omega]
    exact congrArg₂ (fun x y : Fin 256 => P (ix4 b r h x) * _ + P (ix4 b r h y) * _)
      (Fin.ext (show e.val % 128 = e.val by omega)) (Fin.ext (show (e.val % 128 + 64) % 128 = e'.val by omega))
  · rw [if_neg h1, hB, halfAt, hC', hS', show e.val / 128 = 1 by omega]
    pointwise
    simp only [show e.val % 128 % 64 = e.val % 64 by omega]
    exact congrArg₂ (fun x y : Fin 256 => P (ix4 b r h x) * _ + P (ix4 b r h y) * _)
      (Fin.ext (show 128 + e.val % 128 = e.val by omega)) (Fin.ext (show 128 + (e.val % 128 + 64) % 128 = e'.val by omega))

/-- The four parts of a projection side by side. -/
theorem parts_joined {R : ℕ} (q k : (⟨3, ![4, R, 1024]⟩ : Shape).Idx → EReal) (v g : (⟨3, ![4, R, 2048]⟩ : Shape).Idx → EReal)
    (hc : Shape.Concatenates [⟨3, ![4, R, 1024]⟩, ⟨3, ![4, R, 1024]⟩, ⟨3, ![4, R, 2048]⟩, ⟨3, ![4, R, 2048]⟩] ⟨3, ![4, R, 6144]⟩ 2)
    (b : Fin 4) (r : Fin R) (c : Fin 6144) (y : EReal)
    (hq : ∀ z, (z 0 : ℕ) = b → (z 1 : ℕ) = r → (z 2 : ℕ) = c → q z = y)
    (hk : ∀ z, (z 0 : ℕ) = b → (z 1 : ℕ) = r → 1024 + (z 2 : ℕ) = c → k z = y)
    (hv : ∀ z, (z 0 : ℕ) = b → (z 1 : ℕ) = r → 2048 + (z 2 : ℕ) = c → v z = y)
    (hg : ∀ z, (z 0 : ℕ) = b → (z 1 : ℕ) = r → 4096 + (z 2 : ℕ) = c → g z = y) :
    concatenate ⟨3, ![4, R, 6144]⟩ 2 [⟨⟨3, ![4, R, 1024]⟩, q⟩, ⟨⟨3, ![4, R, 1024]⟩, k⟩, ⟨⟨3, ![4, R, 2048]⟩, v⟩, ⟨⟨3, ![4, R, 2048]⟩, g⟩]
      hc (ix3 b r c) = y := by
  have hlt : (c : ℕ) < 6144 := c.isLt
  pointwise
  by_cases h1 : (c : ℕ) < 1024
  · exact (dif_pos h1).trans (hq _ rfl rfl rfl)
  refine (dif_neg h1).trans ?_
  by_cases h2 : (c : ℕ) - 1024 < 1024
  · exact (dif_pos h2).trans (hk _ rfl rfl (show 1024 + ((c : ℕ) - 1024) = c by omega))
  refine (dif_neg h2).trans ?_
  by_cases h3 : (c : ℕ) - 1024 - 1024 < 2048
  · exact (dif_pos h3).trans (hv _ rfl rfl (show 2048 + ((c : ℕ) - 1024 - 1024) = c by omega))
  exact (dif_neg h3).trans (hg _ rfl rfl (show 4096 + ((c : ℕ) - 1024 - 1024 - 2048) = c by omega))

/-- The latents' rows above the context's. -/
theorem rows_joined (A : S4x4096x6144.Idx → EReal) (B : S4x256x6144.Idx → EReal)
    (hc : Shape.Concatenates [S4x4096x6144, S4x256x6144] S4x4352x6144 1) (b : Fin 4) (r : Fin 4352) (c : Fin 6144) (y : EReal)
    (hA : ∀ h : r.val < 4096, A (ix3 b ⟨r.val, h⟩ c) = y) (hB : ∀ h : r.val - 4096 < 256, ¬ r.val < 4096 → B (ix3 b ⟨r.val - 4096, h⟩ c) = y) :
    concatenate S4x4352x6144 1 [⟨S4x4096x6144, A⟩, ⟨S4x256x6144, B⟩] hc (ix3 b r c) = y := by
  pointwise
  by_cases h : r.val < 4096
  · exact (dif_pos h).trans (hA h)
  · exact (dif_neg h).trans (hB _ h)

variable (V0 : Valuation τ sig (Elt Ideal))

/-- The angle of a latent's row. -/
theorem row_angle (r : Fin 4096) (q : Fin 64) :
    res_main_v27 V0 (ix2 r q) = angle 0 r q ∧ res_main_v87 V0 (ix2 r q) = angle 0 r q := by
  constructor
  all_goals
    pointwise [res_main_v27, res_main_v11, res_main_call0_v0, res_main_call0_v2, res_main_v21, res_main_v87, res_main_v71,
      res_main_call2_v0, res_main_call2_v2, res_main_v81]
    exact angle_spelled ((quotient_spelled r).trans (by rw [place, if_pos rfl])) r.isLt q.isLt rfl

/-- The angle of a latent's column. -/
theorem column_angle (r : Fin 4096) (q : Fin 64) :
    res_main_v50 V0 (ix2 r q) = angle 1 r q ∧ res_main_v110 V0 (ix2 r q) = angle 1 r q := by
  constructor
  all_goals
    pointwise [res_main_v50, res_main_v11, res_main_call1_v0, res_main_call1_v2, res_main_call1_v4, res_main_v21, res_main_v110,
      res_main_v71, res_main_call3_v0, res_main_call3_v2, res_main_call3_v4, res_main_v81]
    exact angle_spelled ((remainder_spelled r).trans (by rw [place, if_neg (by decide)])) r.isLt q.isLt rfl

/-- The tokens' array. -/
abbrev inputs : Inputs.Idx → EReal := V0 (Proc.devRef .tc main_arg0)

/-- The weights' array. -/
abbrev weights : (Weights 2 6144).Idx → EReal := V0 (Proc.devRef .tc main_arg1)

/-- The latents' products. -/
theorem latents_product (b : Fin 4) (r : Fin 4096) (c : Fin 6144) {n k : ℕ} (hn : n = 4352 * b.val + r.val) (hk : (c : ℕ) = k) :
    @Eq EReal (res_main_v5 V0 (ix3 b r c)) (product (inputs V0) (weights V0) n k) := by
  subst hn hk
  pointwise [res_main_v5, res_main_v0]
  refine Finset.sum_congr rfl fun k _ => ?_
  exact congrArg₂ (fun x y : EReal => x * y)
    (token_eq (H := inputs V0) (ix3 b ⟨r.val, by omega⟩ k) (show b.val = _ by omega) (show r.val = _ by omega) rfl)
    (weightAt_eq (W := weights V0) (ix3 0 k c) rfl rfl rfl)

/-- The context's products. -/
theorem context_product (b : Fin 4) (r : Fin 256) (c : Fin 6144) {n k : ℕ} (hn : n = 4352 * b.val + (4096 + r.val)) (hk : (c : ℕ) = k) :
    @Eq EReal (res_main_v134 V0 (ix3 b r c)) (product (inputs V0) (weights V0) n k) := by
  subst hn hk
  pointwise [res_main_v134, res_main_v0]
  refine Finset.sum_congr rfl fun k _ => ?_
  exact congrArg₂ (fun x y : EReal => x * y)
    (token_eq (H := inputs V0) (ix3 b ⟨4096 + r.val, by omega⟩ k) (show b.val = _ by omega) (show 4096 + r.val = _ by omega) rfl)
    (weightAt_eq (W := weights V0) (ix3 0 k c) rfl rfl rfl)

/-- The factors that turn a latent's row. -/
theorem row_factors (r : Fin 4096) (q : Fin 64) :
    @Eq EReal (res_main_v29 V0 (ix4 0 r 0 q)) (Ideal.cos (angle 0 r q)) ∧ @Eq EReal (res_main_v31 V0 (ix4 0 r 0 q)) (Ideal.sin (angle 0 r q))
    ∧ @Eq EReal (res_main_v89 V0 (ix4 0 r 0 q)) (Ideal.cos (angle 0 r q))
    ∧ @Eq EReal (res_main_v91 V0 (ix4 0 r 0 q)) (Ideal.sin (angle 0 r q)) := by
  obtain ⟨h, h'⟩ := row_angle V0 r q
  refine ⟨?_, ?_, ?_, ?_⟩
  all_goals pointwise [res_main_v29, res_main_v31, res_main_v89, res_main_v91]
  · exact congrArg Ideal.cos h
  · exact congrArg Ideal.sin h
  · exact congrArg Ideal.cos h'
  · exact congrArg Ideal.sin h'

/-- The factors that turn a latent's column. -/
theorem column_factors (r : Fin 4096) (q : Fin 64) :
    @Eq EReal (res_main_v52 V0 (ix4 0 r 0 q)) (Ideal.cos (angle 1 r q)) ∧ @Eq EReal (res_main_v54 V0 (ix4 0 r 0 q)) (Ideal.sin (angle 1 r q))
    ∧ @Eq EReal (res_main_v112 V0 (ix4 0 r 0 q)) (Ideal.cos (angle 1 r q))
    ∧ @Eq EReal (res_main_v114 V0 (ix4 0 r 0 q)) (Ideal.sin (angle 1 r q)) := by
  obtain ⟨h, h'⟩ := column_angle V0 r q
  refine ⟨?_, ?_, ?_, ?_⟩
  all_goals pointwise [res_main_v52, res_main_v54, res_main_v112, res_main_v114]
  · exact congrArg Ideal.cos h
  · exact congrArg Ideal.sin h
  · exact congrArg Ideal.cos h'
  · exact congrArg Ideal.sin h'

/-- The latents' queries and keys, by head. -/
theorem heads_product (b : Fin 4) (r : Fin 4096) (h : Fin 4) (e : Fin 256) {n k : ℕ} (hn : n = 4352 * b.val + r.val) (hk : k = 256 * h.val + e.val) :
    @Eq EReal (res_main_v10 V0 (ix4 b r h e)) (product (inputs V0) (weights V0) n k)
    ∧ @Eq EReal (res_main_v70 V0 (ix4 b r h e)) (product (inputs V0) (weights V0) n (1024 + k)) := by
  constructor
  all_goals pointwise [res_main_v10, res_main_v70]
  · exact latents_product V0 _ _ _ hn (show h.val * 256 + e.val = k by omega)
  · exact latents_product V0 _ _ _ hn (show 1024 + (h.val * 256 + e.val) = 1024 + k by omega)

/-- The heads side by side. -/
theorem heads_flat (T : S4x4096x4x256.Idx → EReal) (hs : S4x4096x4x256.ShapeCasts S4x4096x1024) (z : S4x4096x1024.Idx) {b : Fin 4}
    {r : Fin 4096} {c : ℕ} (z0 : (z 0 : ℕ) = b) (z1 : (z 1 : ℕ) = r) (z2 : (z 2 : ℕ) = c) (hc : c < 1024) :
    shapeCast S4x4096x1024 T hs z = T (ix4 b r ⟨c / 256, by omega⟩ ⟨c % 256, Nat.mod_lt _ (by decide)⟩) := by
  subst z2
  idx_vars z
  obtain rfl := Fin.ext z0
  obtain rfl := Fin.ext z1
  pointwise

/-- The keys scaled. -/
theorem keys_scaled (T : S4x4096x1024.Idx → EReal) (hb : S_.BroadcastsInDim S4x4096x1024 ![]) (z : S4x4096x1024.Idx) {y : EReal}
    (h : T z = y) :
    mulf (F := Ideal) (φ := .f32) T (broadcastInDim S4x4096x1024 ![] hb (constant S_ .f32 0x3D800000#32)) z = y * keyScale := by
  subst h
  idx_vars z
  pointwise
  rfl

/-- The result, token by token. -/
theorem result_eq (b : Fin 4) (r : Fin 4352) (c : Fin 6144) :
    @Eq EReal (res_main_v143 V0 (ix3 b r c)) (projected (inputs V0) (weights V0) (4352 * b.val + r.val) c) := by
  have hb : b.val < 4 := b.isLt
  have hr : r.val < 4352 := r.isLt
  have e1 : (4352 * b.val + r.val) % 4352 = r.val := by omega
  unfold res_main_v143
  refine rows_joined _ _ _ b r c _ (fun h => ?_) (fun h h' => ?_)
  · refine parts_joined _ _ _ _ _ b ⟨r.val, h⟩ c _ (fun z p0 p1 p2 => ?_) (fun z p0 p1 p2 => ?_) (fun z p0 p1 p2 => ?_)
      (fun z p0 p1 p2 => ?_)
    · have hc : c.val < 1024 := p2 ▸ (z 2).isLt
      refine (heads_flat _ _ z p0 p1 p2 hc).trans ?_
      refine (head_turned (res_main_v10 V0) (res_main_v29 V0) (res_main_v31 V0) (res_main_v52 V0) (res_main_v54 V0) _ _ _ _ _ b
        ⟨r.val, h⟩ ⟨c.val / 256, by omega⟩ (fun e => half_turned _ _ _ _ _ _ _ b _ _ e) (fun e => half_turned _ _ _ _ _ _ _ b _ _ e)
        (fun q => (row_factors V0 _ q).1) (fun q => (row_factors V0 _ q).2.1) (fun q => (column_factors V0 _ q).1)
        (fun q => (column_factors V0 _ q).2.1) _ ⟨partner (c.val % 256), by unfold partner; split_ifs <;> omega⟩ rfl).trans ?_
      rw [projected_query _ _ hc, e1]
      exact congrArg₂ (fun x y : EReal => x * _ + y * _) (heads_product V0 b _ _ _ rfl (show c.val = 256 * (c.val / 256) + c.val % 256 by omega)).1
        (heads_product V0 b _ _ _ rfl (show partner c.val = 256 * (c.val / 256) + partner (c.val % 256) by unfold partner; split_ifs <;> omega)).1
    · have hc : (z 2 : ℕ) < 1024 := (z 2).isLt
      generalize hk : (z 2 : ℕ) = k at *
      rw [← p2, projected_key _ _ hc, e1]
      refine keys_scaled _ _ z ?_
      refine (heads_flat _ _ z p0 p1 hk hc).trans ?_
      refine (head_turned (res_main_v70 V0) (res_main_v89 V0) (res_main_v91 V0) (res_main_v112 V0) (res_main_v114 V0) _ _ _ _ _ b
        ⟨r.val, h⟩ ⟨k / 256, by omega⟩ (fun e => half_turned _ _ _ _ _ _ _ b _ _ e) (fun e => half_turned _ _ _ _ _ _ _ b _ _ e)
        (fun q => (row_factors V0 _ q).2.2.1) (fun q => (row_factors V0 _ q).2.2.2) (fun q => (column_factors V0 _ q).2.2.1)
        (fun q => (column_factors V0 _ q).2.2.2) _ ⟨partner (k % 256), by unfold partner; split_ifs <;> omega⟩ rfl).trans ?_
      exact congrArg₂ (fun x y : EReal => x * _ + y * _) (heads_product V0 b _ _ _ rfl (show k = 256 * (k / 256) + k % 256 by omega)).2
        (heads_product V0 b _ _ _ rfl (show partner k = 256 * (k / 256) + partner (k % 256) by unfold partner; split_ifs <;> omega)).2
    all_goals
      rw [projected_plain _ _ (by omega)]
      idx_vars z
      have p1 : z1.val = r.val := p1
      obtain rfl := Fin.ext p0
      pointwise
      exact latents_product V0 _ _ _ (by rw [p1]) p2
  · refine parts_joined _ _ _ _ _ b ⟨r.val - 4096, h⟩ c _ (fun z p0 p1 p2 => ?_) (fun z p0 p1 p2 => ?_) (fun z p0 p1 p2 => ?_)
      (fun z p0 p1 p2 => ?_)
    case' refine_1 =>
      have hc : c.val < 1024 := p2 ▸ (z 2).isLt
      rw [context_query _ _ hc (by omega)]
    case' refine_2 =>
      have hc : (z 2 : ℕ) < 1024 := (z 2).isLt
      rw [← p2, context_key _ _ hc (by omega), p2]
    case' refine_3 => rw [projected_plain _ _ (by omega)]
    case' refine_4 => rw [projected_plain _ _ (by omega)]
    all_goals
      idx_vars z
      have p1 : z1.val = r.val - 4096 := p1
      obtain rfl := Fin.ext p0
      pointwise
    case refine_2 => exact congrArg (fun x : EReal => x * keyScale) (context_product V0 _ _ _ (by omega) p2)
    all_goals exact context_product V0 _ _ _ (by omega) p2

/-- The result's array. -/
theorem final_eq : (truncf .bf16 (shapeCast _ (res_main_v143 V0) Gen.shapeCasts_S4x4352x6144_S17408x6144) Gen.bitsLt_bf16_f32 : FVec Ideal S17408x6144 .bf16)
    = fun i : S17408x6144.Idx => projected (inputs V0) (weights V0) (i 0 : ℕ) (i 1 : ℕ) := by
  have key := result_eq V0
  generalize res_main_v143 V0 = T at *
  funext i
  idx_vars i
  pointwise
  refine (key _ _ _).trans ?_
  exact congrArg (fun n => projected _ _ n _) (Nat.div_add_mod i0.val 4352)

/-- The reference has no semaphore. -/
theorem no_semaphore : IsEmpty (SemLoc sig) := by
  constructor
  intro s
  cases s with
  | _ x => exact x.elim0

/-- The reference terminates, leaves its arguments as they were, and leaves every semaphore counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun _ h => ⟨fun c => (h c).2, funext fun g => (no_semaphore.false g.2).elim⟩) (Value.run m ρ)

end Cert.ProjectionReferenceIdeal.Val

end
-- ==== Proof.NeighbourhoodValue.lean ====
/-
The neighbourhood attention's projection: the array that its kernel leaves is every token's product with the weights.

The grid has 48 points: point `t` takes the 1088 tokens from `1088 * (t % 16)` and the 1024 projected channels from
`1024 * (t / 16)`. The first point of a run of 16 keeps the run's weights, and the run's points read them there.
-/
module

public import proofs.«01_k».proof.Proof.Gen.NeighbourhoodIdeal.Value
public import proofs.«01_k».proof.Proof.Projected
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.NeighbourhoodIdeal.Val

open Cert.NeighbourhoodIdeal Cert.NeighbourhoodIdeal.Gen Cert.Rotary

variable (m : (ℓ : Loc nD τ sig) → Buf (Elt Ideal) ℓ) (c : Dev nD)

/-- The tokens' array. -/
abbrev inputs : Inputs.Idx → EReal := m ((c.tc : Thread nD τ).loc main_arg0)

/-- The weights' array. -/
abbrev weights : (Weights 1 3072).Idx → EReal := m ((c.tc : Thread nD τ).loc main_arg1)

theorem idx_blocks : ∀ t : Fin cfg0.N,
    win0_0.index t = ![t.val % 16, 0] ∧ win0_1.index t = ![0, 0, t.val / 16] ∧ win0_2.index t = ![t.val % 16, t.val / 16] :=
  (by decide +kernel : ∀ t : Fin grid0.N, _)

/-- The tokens in a row, at an index. -/
theorem rows_eq (i : S17408x1024.Idx) {n k : ℕ} (hn : (i 0 : ℕ) = n) (hk : (i 1 : ℕ) = k) :
    V m c main_v0 i = token (inputs m c) n k := by
  subst hn hk
  have b0 : (i 0 : ℕ) < 17408 := (i 0).isLt
  have b1 : (i 1 : ℕ) < 1024 := (i 1).isLt
  unfold V
  after_reads_at
  exact token_eq _ rfl rfl rfl

variable {m c}
variable (t : Fin cfg0.N)

theorem token_blk (i : S1088x1024.Idx) {a k : ℕ} (ha : (i 0 : ℕ) = a) (hk : (i 1 : ℕ) = k) :
    iblk m c 0 t i = token (inputs m c) (1088 * (t.val % 16) + a) k := by
  blk_simp [iblk]
  refine rows_eq m c _ ?_ ?_
  all_goals blk_simp [idx_blocks t]
  all_goals omega

theorem weight_blk (i : S1x1024x1024.Idx) {k e : ℕ} (hk : (i 1 : ℕ) = k) (he : (i 2 : ℕ) = e) :
    iblk m c 1 t i = weightAt (weights m c) k (1024 * (t.val / 16) + e) := by
  have hi : (i 0 : ℕ) < 1 := (i 0).isLt
  blk_simp [iblk]
  refine weightAt_eq _ ?_ ?_ ?_
  all_goals blk_simp [idx_blocks t]
  all_goals omega

/-- The weights that a grid point's run reads. -/
def keeps (m : (ℓ : Loc nD τ sig) → Buf (Elt Ideal) ℓ) (c : Dev nD) (n : ℕ) (x : S1024x1024.Idx → EReal) : Prop :=
  ∀ (y : S1024x1024.Idx) {k e : ℕ}, (y 0 : ℕ) = k → (y 1 : ℕ) = e → x y = weightAt (weights m c) k (1024 * (n / 16) + e)

/-- A block of tokens times the run's weights. -/
theorem product_eq {x : S1024x1024.Idx → EReal} (hx : keeps m c t.val x) (y : S1088x1024.Idx) {a e : ℕ}
    (ha : (y 0 : ℕ) = a) (he : (y 1 : ℕ) = e) :
    k0_pay2 (F := Ideal) (iblk m c 0 t) x y
      = product (inputs m c) (weights m c) (1088 * (t.val % 16) + a) (1024 * (t.val / 16) + e) := by
  subst ha he
  pointwise [k0_pay2]
  refine Finset.sum_congr rfl fun k _ => ?_
  rw [token_blk t _ rfl rfl, hx _ rfl rfl]
  rfl

attribute [local irreducible] iblk

/-- The weights that a run's first point keeps. -/
theorem keeps_fresh : keeps m c t.val (k0_pay1 (iblk m c 1 t)) := by
  intro y k e hk he
  pointwise [k0_pay1]
  exact weight_blk t _ hk he

/-- What the point before keeps is the same run's, unless the point is the run's first. -/
theorem keeps_before {n : ℕ} (h : ¬ n % 16 = 0) {x : S1024x1024.Idx → EReal} (hx : keeps m c (n - 1) x) : keeps m c n x := by
  intro y k e hk he
  exact (hx y hk he).trans (by rw [show (n - 1) / 16 = n / 16 by omega])

/-- If the point before kept the run's weights, or the point is the run's first, the point keeps them. -/
theorem kept_step (hprev : ¬ t.val % 16 = 0 → ∀ hp : t.val - 1 < cfg0.N, keeps m c (t.val - 1) (outsAt0 m c (t.val - 1) hp).2) :
    keeps m c t.val (outsAt0 m c t.val t.isLt).2 := by
  intro y k e hk he
  by_cases h0 : t.val % 16 = 0
  · rw [outsAt0_A m c t h0]
    frame_open
    frame_out
    exact keeps_fresh t y hk he
  · refine Eq.trans ?_ (keeps_before h0 (hprev h0 (Nat.lt_of_le_of_lt (Nat.sub_le _ _) t.isLt)) y hk he)
    rw [outsAt0_B m c t h0]
    rfl

/-- After a point, the run's weights are kept. -/
theorem kept_eq : ∀ (n : ℕ) (hn : n < cfg0.N), keeps m c n (outsAt0 m c n hn).2
  | 0, hn => kept_step ⟨0, hn⟩ fun h => absurd rfl h
  | n + 1, hn => kept_step ⟨n + 1, hn⟩ fun _ _ => kept_eq n (Nat.lt_of_succ_lt hn)

/-- What a point writes to the result's block. -/
theorem outs_eq (y : S1088x1024.Idx) {a e : ℕ} (ha : (y 0 : ℕ) = a) (he : (y 1 : ℕ) = e) :
    (outsAt0 m c t.val t.isLt).1 y
      = product (inputs m c) (weights m c) (1088 * (t.val % 16) + a) (1024 * (t.val / 16) + e) := by
  by_cases h0 : t.val % 16 = 0
  · rw [outsAt0_A m c t h0]
    frame_open
    simp (disch := decide) only [↓ View.readCov_skip, ↓ View.readCov_cons_toLoadRect, ↓ View.readCov_fill]
    frame_out
    exact product_eq t (keeps_fresh t) y ha he
  · rw [outsAt0_B m c t h0]
    frame_out
    simp only [read_unread_whole]
    exact product_eq t (keeps_before h0 (kept_eq _ (Nat.lt_of_le_of_lt (Nat.sub_le _ _) t.isLt))) y ha he

variable (m c)

/-- The kernel's array after the run: the blocks that the points write back tile it. -/
theorem final_eq : (dats m 0 c).arrAt 2 cfg0.N
    = fun i : S17408x3072.Idx => product (inputs m c) (weights m c) (i 0 : ℕ) (i 1 : ℕ) := by
  refine (dats m 0 c).arrAt_eq_of_covers 2 _ (by decide +kernel) fun t _ y => ?_
  blk_simp
  rw [after0_2]
  refine (outs_eq t y rfl rfl).trans ?_
  congr 1
  all_goals blk_simp [idx_blocks t]
  all_goals omega

end Cert.NeighbourhoodIdeal.Val

end
-- ==== Proof.NeighbourhoodReference.lean ====
/-
The neighbourhood projection's reference computes the same products, of the latents and of the context.
-/
module

public import proofs.«01_k».proof.Proof.Gen.NeighbourhoodReferenceIdeal.Run
public import proofs.«01_k».proof.Proof.Projected
public import Idealize.ShloMosaic.Lib.Pointwise

@[expose] public section

set_option maxRecDepth 16384

noncomputable section

namespace Cert.NeighbourhoodReferenceIdeal.Val

open Idealize.ShloMosaic Idealize.ShloMosaic.TcCoe Idealize.SL.Sem
open Cert.NeighbourhoodReferenceIdeal Cert.NeighbourhoodReferenceIdeal.Gen Cert.Rotary

/-- Some tokens' products. -/
theorem product_spelled {H : Inputs.Idx → EReal} {W : (Weights 1 3072).Idx → EReal} {X : Fin 1024 → EReal} {Y : Fin 1024 → EReal}
    {n c : ℕ} (hX : ∀ k, ∃ j : Inputs.Idx, X k = H j ∧ (j 0 : ℕ) = n / 4352 ∧ (j 1 : ℕ) = n % 4352 ∧ (j 2 : ℕ) = k)
    (hY : ∀ k, ∃ j : (Weights 1 3072).Idx, Y k = W j ∧ (j 1 : ℕ) = k ∧ (j 2 : ℕ) = c) :
    ∑ k, X k * Y k = product H W n c := by
  refine Finset.sum_congr rfl fun k _ => ?_
  obtain ⟨j, hj, j0, j1, j2⟩ := hX k
  obtain ⟨l, hl, l1, l2⟩ := hY k
  have l0 : (l 0 : ℕ) < 1 := (l 0).isLt
  rw [hj, hl, token_eq (H := H) j j0 j1 j2, weightAt_eq (W := W) l (by omega) l1 l2]

/-- The result's array, of any tokens and weights. -/
theorem final_eq (H : Inputs.Idx → EReal) (W : (Weights 1 3072).Idx → EReal) :
    (truncf .bf16 (shapeCast S17408x3072 (concatenate S4x4352x3072 1
        [⟨S4x4096x3072, (Host.dotGeneral (F := Ideal) (φ₁ := .f32) (φ₂ := .f32) dot_S4x4096x1024_S1024x3072_S4x4096x3072_2_0_01_1_n_n none
            (extractStridedSlice S4x4096x1024 ![0, 0, 0] (extf (F := Ideal) (φ := .bf16) .f32 H bitsLt_bf16_f32) slices_S4x4352x1024_S4x4096x1024_0_0_0)
            (shapeCast _ W shapeCasts_S1x1024x3072_S1024x3072))⟩,
          ⟨S4x256x3072, (Host.dotGeneral (F := Ideal) (φ₁ := .f32) (φ₂ := .f32) dot_S4x256x1024_S1024x3072_S4x256x3072_2_0_01_1_n_n none
            (extractStridedSlice S4x256x1024 ![0, 4096, 0] (extf (F := Ideal) (φ := .bf16) .f32 H bitsLt_bf16_f32) slices_S4x4352x1024_S4x256x1024_0_4096_0)
            (shapeCast _ W shapeCasts_S1x1024x3072_S1024x3072))⟩]
        concatenates_S4x4096x3072_S4x256x3072_S4x4352x3072_d1) shapeCasts_S4x4352x3072_S17408x3072) bitsLt_bf16_f32
      : FVec Ideal S17408x3072 .bf16)
    = fun i : S17408x3072.Idx => product H W (i 0 : ℕ) (i 1 : ℕ) := by
  funext i
  idx_vars i
  have hi : i0.val < 17408 := i0.isLt
  pointwise
  by_cases h : i0.val % 4352 < 4096
  · refine (dif_pos (by first | exact h | omega)).trans ?_
    refine product_spelled (fun k => ⟨_, rfl, ?_, ?_, ?_⟩) (fun k => ⟨_, rfl, ?_, ?_⟩)
    all_goals first | (dsimp only [ix3]; omega) | (simp [ix3]; done)
  · refine (dif_neg (by first | exact h | omega)).trans ?_
    refine product_spelled (fun k => ⟨_, rfl, ?_, ?_, ?_⟩) (fun k => ⟨_, rfl, ?_, ?_⟩)
    all_goals first | (dsimp only [ix3]; omega) | (simp [ix3]; done)

/-- The reference has no semaphore. -/
theorem no_semaphore : IsEmpty (SemLoc sig) := by
  constructor
  intro s
  cases s with
  | _ x => exact x.elim0

/-- The reference terminates, leaves its arguments as they were, and leaves every semaphore counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun _ h => ⟨fun c => (h c).2, funext fun g => (no_semaphore.false g.2).elim⟩) (Value.run m ρ)

end Cert.NeighbourhoodReferenceIdeal.Val

end
-- ==== Proof.LowerPlan.lean ====
/-
The plan of the lower experts' visits: the expert that each visit holds is an expert, whatever the counts of the classes are.
-/
module

public import proofs.«01_k».proof.Proof.Gen.LowerIdeal.Frame
public import Idealize.ShloMosaic.Lib.Pointwise
public import Mathlib.Data.BitVec

@[expose] public section

set_option maxRecDepth 16384

noncomputable section

namespace Cert.LowerIdeal.Plan

open Idealize.ShloMosaic Idealize.ShloMosaic.TcCoe Idealize.SL.Sem
open Cert.LowerIdeal Cert.LowerIdeal.Gen

/-- The classes' counts, padded to whole blocks. -/
def padded (a : IVec S24 32) : IVec S24 32 :=
  let x := subi (addi a (broadcastInDim S24 ![] bcast_S_S24 (constantI S_ 32 256#32)))
    (broadcastInDim S24 ![] bcast_S_S24 (constantI S_ 32 1#32))
  let q := Host.divsi x (broadcastInDim S24 ![] bcast_S_S24 (id (constantI S_ 32 256#32)))
  muli (select (andi (cmpi .ne (signi x) (broadcastInDim S24 ![] bcast_S_S24 (signi (id (constantI S_ 32 256#32)))))
      (cmpi .ne (Host.remsi x (broadcastInDim S24 ![] bcast_S_S24 (id (constantI S_ 32 256#32))))
        (broadcastInDim S24 ![] bcast_S_S24 (constantI S_ 32 0#32))))
    (subi q (broadcastInDim S24 ![] bcast_S_S24 (constantI S_ 32 1#32))) q)
    (broadcastInDim S24 ![] bcast_S_S24 (constantI S_ 32 256#32))

/-- Where the classes' rows end. -/
def ends (a : IVec S24 32) : IVec S24 32 :=
  Host.reduceWindow IntOp.addi ![24] ![1] ![23] ![0] (padded a) (broadcastInDim S_ ![] bcast_S_S_ (constantI S_ 32 0#32))
    reduceWindows_S24_S24_w24s1p23_0 h_S_

/-- The class of each block. -/
def classOf (a : IVec S24 32) : IVec S92 32 :=
  minsi (Host.reduce IntOp.addi (extui 32 (cmpi .sle
      (broadcastInDim S92x24 ![0, 1] bcast_S1x24_S92x24_0_1 (broadcastInDim S1x24 ![1] bcast_S24_S1x24_1 (ends a)))
      (broadcastInDim S92x24 ![0, 1] bcast_S92x1_S92x24_0_1 (broadcastInDim S92x1 ![0] bcast_S92_S92x1_0
        (muli (iotaInDim S92 32 0) (broadcastInDim S92 ![] bcast_S_S92 (constantI S_ 32 256#32)))))) natLt_1_32)
      (constantI S_ 32 0#32) reducesTo_S92x24_S92_d1 h_S_)
    (broadcastInDim S92 ![] bcast_S_S92 (constantI S_ 32 23#32))

/-- The number of blocks that hold rows. -/
def usedOf (a : IVec S24 32) : IVec S_ 32 :=
  let x : IVec S_ 32 := shapeCast S_ (extractStridedSlice S1 ![23] (ends a) slices_S24_S1_23) shapeCasts_S1_S_
  let q := Host.divsi x (id (constantI S_ 32 256#32))
  select (andi (cmpi .ne (signi x) (signi (id (constantI S_ 32 256#32))))
      (cmpi .ne (Host.remsi x (id (constantI S_ 32 256#32))) (constantI S_ 32 0#32)))
    (subi q (constantI S_ 32 1#32)) q

/-- Each class's lower expert. -/
def lower : IVec S24 32 := fun i => lit0 (S24.rowMajor i)

/-- Each block's lower expert, as the sum of the classes' lower experts of which the block's class is kept. -/
def own (a : IVec S24 32) : IVec S92 32 :=
  Host.reduce IntOp.addi (select (cmpi .eq
      (broadcastInDim S92x24 ![0, 1] bcast_S92x1_S92x24_0_1 (broadcastInDim S92x1 ![0] bcast_S92_S92x1_0 (classOf a)))
      (broadcastInDim S92x24 ![0, 1] bcast_S1x24_S92x24_0_1 (broadcastInDim S1x24 ![1] bcast_S24_S1x24_1 (iotaInDim S24 32 0))))
    (broadcastInDim S92x24 ![0, 1] bcast_S1x24_S92x24_0_1 (broadcastInDim S1x24 ![1] bcast_S24_S1x24_1 lower))
    (broadcastInDim S92x24 ![] bcast_S_S92x24 (id (constantI S_ 32 0#32))))
    (constantI S_ 32 0#32) reducesTo_S92x24_S92_d1 h_S_

/-- The expert of the last block that holds rows. -/
def lastOf (a : IVec S24 32) : IVec S_ 32 :=
  Host.reduce IntOp.addi (select (cmpi .eq (iotaInDim S92 32 0)
      (broadcastInDim S92 ![] bcast_S_S92 (subi (usedOf a) (constantI S_ 32 1#32))))
    (own a) (broadcastInDim S92 ![] bcast_S_S92 (id (constantI S_ 32 0#32))))
    (constantI S_ 32 0#32) reducesTo_S92_S_d0 h_S_

/-- The expert that each visit holds: after the last block that holds rows, that block's. -/
def held (a : IVec S24 32) : IVec S92 32 :=
  select (cmpi .slt (iotaInDim S92 32 0) (broadcastInDim S92 ![] bcast_S_S92 (usedOf a))) (own a)
    (broadcastInDim S92 ![] bcast_S_S92 (lastOf a))

/-- The sum of words, as a fold. -/
theorem fold_words {n : ℕ} (f : Fin n → BitVec 32) : (Finset.univ : Finset (Fin n)).fold IntOp.addi 0#32 f = ∑ i, f i := rfl

/-- The sum of the kept table entries. -/
theorem own_aux (b : BitVec 32) (lo : Fin 24 → BitVec 32) :
    (∑ k : Fin 24, if b = BitVec.ofNat 32 k.val then lo k else 0#32) = if h : b.toNat < 24 then lo ⟨b.toNat, h⟩ else 0#32 := by
  split
  · next h =>
    rw [Finset.sum_eq_single (⟨b.toNat, h⟩ : Fin 24)]
    · simp
    · intro k _ hk
      refine if_neg fun e => hk (Fin.ext ?_)
      have := k.isLt
      simp [e]; omega
    · simp
  · next h =>
    refine Finset.sum_eq_zero fun k _ => if_neg fun e => h ?_
    have := k.isLt
    simp [e]; omega

/-- The sum along the classes. -/
theorem red (x : IVec S92x24 32) (j : S92.Idx) :
   Host.reduce IntOp.addi x (constantI S_ 32 0#32) reducesTo_S92x24_S92_d1 h_S_ j = ∑ k : Fin 24, x (ix2 (j 0) k) := by
  rw [Host.reduce_eq_fold_single IntOp.addi x _ reducesTo_S92x24_S92_d1 (by decide) h_S_ j]
  refine (fold_words _).trans ?_
  refine Finset.sum_congr rfl fun k _ => ?_
  refine congrArg x ?_
  funext a
  fin_cases a <;> rfl

/-- The sum of all entries. -/
theorem red0 (x : IVec S92 32) (j : S_.Idx) :
   Host.reduce IntOp.addi x (constantI S_ 32 0#32) reducesTo_S92_S_d0 h_S_ j = ∑ i : S92.Idx, x i := by
  rw [Host.reduce_eq_fold IntOp.addi x _ reducesTo_S92_S_d0 h_S_ j,
    Finset.filter_true_of_mem fun i _ => funext fun a => Fin.elim0 a]
  rfl

/-- What a comparison of words keeps. -/
theorem select_eq {α : Type} (x y : BitVec 32) (u v : α) : Scalar.select (IntOp.cmpi .eq x y) u v = if x = y then u else v := by
  unfold Scalar.select IntOp.cmpi
  by_cases h : x = y
  · simp [h]
  · rw [if_neg h, show (x == y) = false from beq_eq_false_iff_ne.mpr h]
    rfl

/-- A block's lower expert, from its class. -/
theorem own_eq (a : IVec S24 32) (y : S92.Idx) :
    own a y = ∑ k : Fin 24, if classOf a y = BitVec.ofNat 32 k.val then lower (ix1 k) else 0#32 := by
  unfold own
  rw [red]
  refine Finset.sum_congr rfl fun k _ => ?_
  pointwise
  rw [select_eq]
  rfl

/-- Every class's lower expert is an expert. -/
theorem lower_lt : ∀ k : Fin 24, (lower (ix1 k)).toNat < 16 := by decide +kernel

/-- A block's class is at most the last. -/
theorem classOf_le (a : IVec S24 32) (y : S92.Idx) : (classOf a y).toInt ≤ 23 := by
  unfold classOf
  pointwise
  generalize Host.reduce IntOp.addi _ _ _ _ _ = w
  unfold IntOp.minsi
  split <;> rename_i h
  · simp [BitVec.sle, BitVec.slt] at h ⊢
    try omega
  · decide

/-- A block's lower expert is the table's entry at its class, clipped to the classes. -/
theorem own_class (a : IVec S24 32) (y : S92.Idx) : own a y = lower (ix1 ⟨min (classOf a y).toInt.toNat 23, by omega⟩) := by
  have hc := classOf_le a y
  rw [own_eq, own_aux]
  have hd := BitVec.toInt_eq_toNat_cond (classOf a y)
  have hl := (classOf a y).isLt
  split
  · next h =>
    refine congrArg lower (congrArg ix1 (Fin.ext ?_))
    show (classOf a y).toNat = min _ 23
    rw [if_pos (by omega)] at hd
    omega
  · next h =>
    have h0 : min (classOf a y).toInt.toNat 23 = 0 := by
      split at hd <;> omega
    simp only [h0]
    rfl

/-- A block's lower expert is an expert. -/
theorem own_lt (a : IVec S24 32) (y : S92.Idx) : (own a y).toNat < 16 := by
  rw [own_class]; exact lower_lt _

/-- The last used block's expert, or zero. -/
theorem lastOf_eq (a : IVec S24 32) (y : S_.Idx) :
    lastOf a y = ∑ i : S92.Idx, if BitVec.ofNat 32 (i 0).val = usedOf a Idealize.ShloMosaic.ix0 - 1#32 then own a i else 0#32 := by
  unfold lastOf
  rw [red0]
  refine Finset.sum_congr rfl fun i _ => ?_
  pointwise
  rw [select_eq]
  rfl

/-- The last used block's expert is an expert. -/
theorem lastOf_lt (a : IVec S24 32) (y : S_.Idx) : (lastOf a y).toNat < 16 := by
  rw [lastOf_eq]
  by_cases h : ∃ i : S92.Idx, BitVec.ofNat 32 (i 0).val = usedOf a Idealize.ShloMosaic.ix0 - 1#32
  · obtain ⟨i, hi⟩ := h
    rw [Finset.sum_eq_single i]
    · rw [if_pos hi]; exact own_lt a i
    · intro l _ hl
      refine if_neg fun hl' => hl ?_
      have e := congrArg BitVec.toNat (hl'.trans hi.symm)
      have b1 : (l 0).val < 92 := (l 0).isLt
      have b2 : (i 0).val < 92 := (i 0).isLt
      simp only [BitVec.toNat_ofNat] at e
      funext b
      obtain rfl : b = 0 := Subsingleton.elim _ _
      exact Fin.ext (by omega)
    · simp
  · have h0 : (∑ i : S92.Idx, if BitVec.ofNat 32 (i 0).val = usedOf a Idealize.ShloMosaic.ix0 - 1#32 then own a i else 0#32) = 0#32 :=
      Finset.sum_eq_zero fun i _ => if_neg fun hi => h ⟨i, hi⟩
    rw [h0]
    decide

/-- Every visit's expert is an expert. -/
theorem held_lt (a : IVec S24 32) (y : S92.Idx) : (held a y).toNat < 16 := by
  unfold held
  pointwise
  unfold Scalar.select
  split
  · exact own_lt a y
  · exact lastOf_lt a _

section Tables

variable {F : FTy → Type} [FloatOps F] (m : (ℓ : Loc nD τ sig) → Buf (Elt F) ℓ)

/-- The classes' counts. -/
abbrev counts (c : Dev nD) : IVec S24 32 := m ((c.tc : Thread nD τ).loc main_arg1)

set_option maxHeartbeats 4000000 in
/-- The table of the visits' experts. -/
theorem V_experts (c : Dev nD) : V m c main_v39 = held (counts m c) := by
  simp only [V, hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil, List.cons_append,
    List.nil_append, StableHlo.TRef.binary, StableHlo.TRef.nullary, StableHlo.TRef.ternary, StableHlo.TRef.unary,
    StableHlo.TRef.toBuf, StableHlo.TRef.ofBuf, cast_eq]
  after_results_simp <;> rfl

set_option maxHeartbeats 4000000 in
/-- The table of the number of blocks that hold rows. -/
theorem V_used (c : Dev nD) : V m c main_v40 = broadcastInDim S1 ![] bcast_S_S1 (usedOf (counts m c)) := by
  simp only [V, hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil, List.cons_append,
    List.nil_append, StableHlo.TRef.binary, StableHlo.TRef.nullary, StableHlo.TRef.ternary, StableHlo.TRef.unary,
    StableHlo.TRef.toBuf, StableHlo.TRef.ofBuf, cast_eq]
  after_results_simp <;> rfl

/-- The expert that the table names at a visit. -/
def expertAt (y : S92.Idx) : BitVec 32 := tbl m 0 y

/-- The table's entry, from the counts. -/
theorem expertAt_eq (y : S92.Idx) : expertAt m y = held (counts m 0) y := congrFun (V_experts m 0) y

/-- The table's entry is an expert. -/
theorem expertAt_lt (y : S92.Idx) : (expertAt m y).toNat < 16 := by
  rw [expertAt_eq]
  exact held_lt _ y

/-- Where a visit reads the table. -/
theorem visit_index (i : grid0.Coords) (h) (h1 : 0 < S1.numel) :
    (Rect.unit (s := S92) ![(Scalar.indexCast (BitVec.ofNat 32 (i 0).val)).toNat] S1.size h).emb (Shape.Idx.first h1) = (ix1 (i 0) : S92.Idx) := by
  funext b
  obtain rfl : b = 0 := Subsingleton.elim _ _
  refine Fin.ext ?_
  have h92 : (i 0).val < 92 := (i 0).isLt
  have h0 : ((Shape.Idx.first h1 : S1.Idx) 0).val < 1 := ((Shape.Idx.first h1 : S1.Idx) 0).isLt
  simp [Rect.emb, Scalar.indexCast]
  omega

/-- The block of the gates' weights that a visit reads. -/
theorem index_1 (i : grid0.Coords) : cc0_transform_1 k0_off1_inb numel1_S1 (tbl m) i = ![0, (expertAt m (ix1 (i 0))).toNat, 0, 0] := by
  rw [← visit_index i (k0_off1_inb i) (numel1_S1.symm ▸ Nat.one_pos)]
  rfl

/-- The block of the other factors' weights that a visit reads. -/
theorem index_2 (i : grid0.Coords) : cc0_transform_2 k0_off1_inb numel1_S1 (tbl m) i = ![0, (expertAt m (ix1 (i 0))).toNat, 0, 0] := index_1 m i

/-- The block of the output's weights that a visit reads. -/
theorem index_3 (i : grid0.Coords) : cc0_transform_3 k0_off1_inb numel1_S1 (tbl m) i = ![0, (expertAt m (ix1 (i 0))).toNat, 0, 0] := index_1 m i

/-- An expert's block lies inside the weights. -/
theorem inside {e : ℕ} (h : e < 16) (b : Fin 4) : ((![0, e, 0, 0] : Fin 4 → ℕ) b + 1) * S1x1x1024x1024.size b ≤ S4x16x1024x1024.size b := by
  fin_cases b
  · exact (by decide : (0 + 1) * 1 ≤ 4)
  · show (e + 1) * 1 ≤ 16
    omega
  · exact (by decide : (0 + 1) * 1024 ≤ 1024)
  · exact (by decide : (0 + 1) * 1024 ≤ 1024)

/-- The condition on the tables: every block that they name lies inside its array. -/
theorem ok : Ok m :=
  ⟨fun i => ⟨fun b => (index_1 m i).symm ▸ inside (expertAt_lt m _) b, .inl rfl⟩,
    fun i => ⟨fun b => (index_2 m i).symm ▸ inside (expertAt_lt m _) b, .inl rfl⟩,
    fun i => ⟨fun b => (index_3 m i).symm ▸ inside (expertAt_lt m _) b, .inl rfl⟩⟩

end Tables

end Cert.LowerIdeal.Plan

end
-- ==== Proof.Experts.lean ====
/-
The lower experts of the grouped rows: each row's gated products with its own expert's weights, times the row's weight.
-/
module

public import Idealize.ShloMosaic.Lib.Pointwise

@[expose] public section

noncomputable section

open Idealize.ShloMosaic

namespace Cert.Experts

/-- The grouped rows' shape: a row's 1024 channels, then its two experts' weights. -/
abbrev Rows : Shape := ⟨2, ![23552, 1152]⟩

/-- The shape of the experts' weights of all layers. -/
abbrev Weights : Shape := ⟨4, ![4, 16, 1024, 1024]⟩

/-- A word of a row. -/
def rowAt (X : Rows.Idx → EReal) (p k : ℕ) : EReal := if h : p < 23552 ∧ k < 1152 then X (ix2 ⟨p, h.1⟩ ⟨k, h.2⟩) else 0

theorem rowAt_eq {X : Rows.Idx → EReal} (i : Rows.Idx) {p k : ℕ} (h0 : (i 0 : ℕ) = p) (h1 : (i 1 : ℕ) = k) : X i = rowAt X p k := by
  subst h0 h1
  unfold rowAt
  rw [dif_pos ⟨(i 0).isLt, (i 1).isLt⟩]
  refine congrArg X ?_
  idx_vars i

/-- A weight of the first layer's expert. -/
def weightAt (W : Weights.Idx → EReal) (e k f : ℕ) : EReal :=
  if h : e < 16 ∧ k < 1024 ∧ f < 1024 then W (ix4 (0 : Fin 4) ⟨e, h.1⟩ ⟨k, h.2.1⟩ ⟨f, h.2.2⟩) else 0

theorem weightAt_eq {W : Weights.Idx → EReal} (i : Weights.Idx) {e k f : ℕ} (h0 : (i 0 : ℕ) = 0) (h1 : (i 1 : ℕ) = e)
    (h2 : (i 2 : ℕ) = k) (h3 : (i 3 : ℕ) = f) : W i = weightAt W e k f := by
  subst h1 h2 h3
  unfold weightAt
  rw [dif_pos ⟨(i 1).isLt, (i 2).isLt, (i 3).isLt⟩]
  refine congrArg W ?_
  idx_vars i
  obtain rfl : i0 = (0 : Fin 4) := Fin.ext h0
  rfl

variable (X : Rows.Idx → EReal) (Wg Wu Wd : Weights.Idx → EReal)

/-- A row's product with an expert's weights. -/
def product (W : Weights.Idx → EReal) (p e f : ℕ) : EReal := ∑ k : Fin 1024, rowAt X p k * weightAt W e k f

/-- A row's hidden channel in an expert. -/
def hidden (p e f : ℕ) : EReal := product X Wg p e f * Ideal.logistic (product X Wg p e f) * product X Wu p e f

/-- A row's channel out of an expert. -/
def expert (p e d : ℕ) : EReal := ∑ f : Fin 1024, hidden X Wg Wu p e f * weightAt Wd e f d

/-- The result: of a block among the first `n`, its expert's channels, times the row's weight; zero of the others. -/
def result (n : BitVec 32) (own : (⟨1, ![92]⟩ : Shape).Idx → BitVec 32) (p d : ℕ) (hp : p < 23552) : EReal :=
  if (BitVec.ofNat 32 (p / 256)).slt n then
    expert X Wg Wu Wd p (own (ix1 ⟨p / 256, by omega⟩)).toNat d * rowAt X p 1024
  else 0

end Cert.Experts

end
-- ==== Proof.LowerValue.lean ====
/-
The first experts' call: the array that its kernel leaves is each row's product with its lower expert, times the row's weight.

The grid has 92 points: point `t` takes the 256 rows from `256 * t`, and the weights of the expert that the table names.
-/
module

public import proofs.«01_k».proof.Proof.LowerPlan
public import proofs.«01_k».proof.Proof.Experts
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.LowerIdeal.Val

open Cert.LowerIdeal Cert.LowerIdeal.Gen Cert.LowerIdeal.Plan

variable (m : (ℓ : Loc nD τ sig) → Buf (Elt Ideal) ℓ) (c : Dev nD)

/-- The grouped rows. -/
abbrev rows : Experts.Rows.Idx → EReal := m ((c.tc : Thread nD τ).loc main_arg0)
/-- The gates' weights. -/
abbrev gates : Experts.Weights.Idx → EReal := m ((c.tc : Thread nD τ).loc main_arg2)
/-- The other factors' weights. -/
abbrev ups : Experts.Weights.Idx → EReal := m ((c.tc : Thread nD τ).loc main_arg3)
/-- The output's weights. -/
abbrev downs : Experts.Weights.Idx → EReal := m ((c.tc : Thread nD τ).loc main_arg4)

variable (t : Fin (cfgM m (ok m)).N)

theorem coord_eq : ((grid0.coords t) 0 : ℕ) = t.val :=
  (by decide +kernel : ∀ t : Fin grid0.N, ((grid0.coords t) 0 : ℕ) = t.val) t

theorem idx_rows : ((cfgM m (ok m)).win 0).index t = ![t.val, 0] :=
  (by decide +kernel : ∀ t : Fin grid0.N, cc0_transform_0 (grid0.coords t) = ![t.val, 0]) t

theorem idx_out : ((cfgM m (ok m)).win 4).index t = ![t.val, 0] :=
  (by decide +kernel : ∀ t : Fin grid0.N, cc0_transform_4 (grid0.coords t) = ![t.val, 0]) t

theorem idx_gates : ((cfgM m (ok m)).win 1).index t = ![0, (expertAt m (ix1 (grid0.coords t 0))).toNat, 0, 0] := index_1 m _

theorem idx_ups : ((cfgM m (ok m)).win 2).index t = ![0, (expertAt m (ix1 (grid0.coords t 0))).toNat, 0, 0] := index_2 m _

theorem idx_downs : ((cfgM m (ok m)).win 3).index t = ![0, (expertAt m (ix1 (grid0.coords t 0))).toNat, 0, 0] := index_3 m _

/-- The expert of a grid point. -/
abbrev expertOf : ℕ := (expertAt m (ix1 (grid0.coords t 0))).toNat

theorem row_blk (i : S256x1152.Idx) {a k : ℕ} (ha : (i 0 : ℕ) = a) (hk : (i 1 : ℕ) = k) :
    iblk m (ok m) c 0 t i = Experts.rowAt (rows m c) (256 * t.val + a) k := by
  blk_simp [iblk]
  refine (congrFun (show V m c main_arg0 = rows m c from rfl) _).trans (Experts.rowAt_eq _ ?_ ?_)
  all_goals blk_simp
  all_goals rw [idx_rows m t]
  all_goals blk_simp
  all_goals omega

theorem gate_blk (i : S1x1x1024x1024.Idx) {k f : ℕ} (hk : (i 2 : ℕ) = k) (hf : (i 3 : ℕ) = f) :
    iblk m (ok m) c 1 t i = Experts.weightAt (gates m c) (expertOf m t) k f := by
  have h0 : (i 0 : ℕ) < 1 := (i 0).isLt
  have h1 : (i 1 : ℕ) < 1 := (i 1).isLt
  blk_simp [iblk]
  refine (congrFun (show V m c main_arg2 = gates m c from rfl) _).trans (Experts.weightAt_eq _ ?_ ?_ ?_ ?_)
  all_goals blk_simp
  all_goals rw [idx_gates m t]
  all_goals try blk_simp
  all_goals try omega
  all_goals try rfl

theorem up_blk (i : S1x1x1024x1024.Idx) {k f : ℕ} (hk : (i 2 : ℕ) = k) (hf : (i 3 : ℕ) = f) :
    iblk m (ok m) c 2 t i = Experts.weightAt (ups m c) (expertOf m t) k f := by
  have h0 : (i 0 : ℕ) < 1 := (i 0).isLt
  have h1 : (i 1 : ℕ) < 1 := (i 1).isLt
  blk_simp [iblk]
  refine (congrFun (show V m c main_arg3 = ups m c from rfl) _).trans (Experts.weightAt_eq _ ?_ ?_ ?_ ?_)
  all_goals blk_simp
  all_goals rw [idx_ups m t]
  all_goals try blk_simp
  all_goals try omega
  all_goals try rfl

theorem down_blk (i : S1x1x1024x1024.Idx) {k f : ℕ} (hk : (i 2 : ℕ) = k) (hf : (i 3 : ℕ) = f) :
    iblk m (ok m) c 3 t i = Experts.weightAt (downs m c) (expertOf m t) k f := by
  have h0 : (i 0 : ℕ) < 1 := (i 0).isLt
  have h1 : (i 1 : ℕ) < 1 := (i 1).isLt
  blk_simp [iblk]
  refine (congrFun (show V m c main_arg4 = downs m c from rfl) _).trans (Experts.weightAt_eq _ ?_ ?_ ?_ ?_)
  all_goals blk_simp
  all_goals rw [idx_downs m t]
  all_goals try blk_simp
  all_goals try omega
  all_goals try rfl

attribute [local irreducible] iblk

/-- What an active point stores over its reads. -/
theorem stored_eq (c : Dev nD) (i : grid0.Coords) (arg3 : Memref sig .tc .vmem S256x1152 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S256x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole)
    (x0 : Vec Ideal S256x1152 .f32) (x1 : Vec Ideal S1x1x1024x1024 .f32) (x2 : Vec Ideal S1x1x1024x1024 .f32) (x3 : Vec Ideal S1x1x1024x1024 .f32) (xt0 : TbBuf0 (F := Ideal) c tbM0_0) (xt1 : TbBuf0 (F := Ideal) c tbM0_1) (hc0 : cond0_0 i (tbM0_1.view.readAt (Elt Ideal) (Rect.unit (s := S1) ![0] S1.size inb_S1_S1_0).toLoadRect xt1 (Shape.Idx.first (numel1_S1.symm ▸ Nat.one_pos)))) :
    out0_A_4 c i arg3 harg3 arg4 harg4 arg5 harg5 arg6 harg6 arg7 harg7 arg8 harg8 arg9 harg9 arg10 harg10 x0 x1 x2 x3 xt0 xt1 hc0
      = k0_pay2 (k0_pay6 (View.ld x0 (Rect.unit ![0, 0] ![256, 1024] inb_S256x1152_S256x1024_0_0)) (k0_pay3 x1) (k0_pay4 x2))
          (k0_pay5 x3) (View.ld x0 (Rect.unit ![0, 1024] ![256, 1] inb_S256x1152_S256x1_0_1024)) := by
  frame_open
  simp (disch := decide) only [↓ View.readCov_skip, ↓ View.readCov_cons_toLoadRect, ↓ View.readCov_fill]
  frame_out

/-- A point's rows times weights that the point reads. -/
theorem hidden_eq (x : S256x1024.Idx → EReal) (hx : ∀ (y : S256x1024.Idx) {a k : ℕ}, (y 0 : ℕ) = a → (y 1 : ℕ) = k → x y = Experts.rowAt (rows m c) (256 * t.val + a) k)
    (y : S256x1024.Idx) {a f : ℕ} (ha : (y 0 : ℕ) = a) (hf : (y 1 : ℕ) = f) :
    k0_pay6 (F := Ideal) x (k0_pay3 (iblk m (ok m) c 1 t)) (k0_pay4 (iblk m (ok m) c 2 t)) y
      = Experts.hidden (rows m c) (gates m c) (ups m c) (256 * t.val + a) (expertOf m t) f := by
  subst ha hf
  have hg : ∀ (y : S1024x1024.Idx) {k f : ℕ}, (y 0 : ℕ) = k → (y 1 : ℕ) = f →
      k0_pay3 (F := Ideal) (iblk m (ok m) c 1 t) y = Experts.weightAt (gates m c) (expertOf m t) k f := by
    intro y k f hk hf
    pointwise [k0_pay3]
    exact gate_blk m c t _ hk hf
  have hu : ∀ (y : S1024x1024.Idx) {k f : ℕ}, (y 0 : ℕ) = k → (y 1 : ℕ) = f →
      k0_pay4 (F := Ideal) (iblk m (ok m) c 2 t) y = Experts.weightAt (ups m c) (expertOf m t) k f := by
    intro y k f hk hf
    pointwise [k0_pay4]
    exact up_blk m c t _ hk hf
  generalize k0_pay3 (F := Ideal) (iblk m (ok m) c 1 t) = wg at *
  generalize k0_pay4 (F := Ideal) (iblk m (ok m) c 2 t) = wu at *
  pointwise [k0_pay6]
  simp only [hx _ rfl rfl, hg _ rfl rfl, hu _ rfl rfl]
  rfl

/-- A point's hidden channels times the output's weights that the point reads, times its rows' weights. -/
theorem expert_eq (hid : S256x1024.Idx → EReal) (hh : ∀ (y : S256x1024.Idx) {a f : ℕ}, (y 0 : ℕ) = a → (y 1 : ℕ) = f →
      hid y = Experts.hidden (rows m c) (gates m c) (ups m c) (256 * t.val + a) (expertOf m t) f)
    (x : S256x1.Idx → EReal) (hx : ∀ (y : S256x1.Idx) {a : ℕ}, (y 0 : ℕ) = a → x y = Experts.rowAt (rows m c) (256 * t.val + a) 1024)
    (y : S256x1024.Idx) {a d : ℕ} (ha : (y 0 : ℕ) = a) (hd : (y 1 : ℕ) = d) :
    k0_pay2 (F := Ideal) hid (k0_pay5 (iblk m (ok m) c 3 t)) x y
      = Experts.expert (rows m c) (gates m c) (ups m c) (downs m c) (256 * t.val + a) (expertOf m t) d
        * Experts.rowAt (rows m c) (256 * t.val + a) 1024 := by
  subst ha hd
  have hd' : ∀ (y : S1024x1024.Idx) {k f : ℕ}, (y 0 : ℕ) = k → (y 1 : ℕ) = f →
      k0_pay5 (F := Ideal) (iblk m (ok m) c 3 t) y = Experts.weightAt (downs m c) (expertOf m t) k f := by
    intro y k f hk hf
    pointwise [k0_pay5]
    exact down_blk m c t _ hk hf
  generalize k0_pay5 (F := Ideal) (iblk m (ok m) c 3 t) = wd at *
  pointwise [k0_pay2]
  simp only [hh _ rfl rfl, hd' _ rfl rfl]
  rw [hx _ rfl]
  rfl

theorem outs_active (h : cond0_0 (grid0.coords t) (tbM0_1.view.readAt (Elt Ideal) (Rect.unit (s := S1) ![0] S1.size inb_S1_S1_0).toLoadRect (tbl m 1) (Shape.Idx.first (numel1_S1.symm ▸ Nat.one_pos))))
    (y : S256x1024.Idx) {a d : ℕ} (ha : (y 0 : ℕ) = a) (hd : (y 1 : ℕ) = d) :
    outsAt0 m (ok m) c t y = Experts.expert (rows m c) (gates m c) (ups m c) (downs m c) (256 * t.val + a) (expertOf m t) d
      * Experts.rowAt (rows m c) (256 * t.val + a) 1024 := by
  rw [outsAt0_A m (ok m) c t h]
  refine (congrFun (stored_eq ..) y).trans (expert_eq m c t _ (fun y => hidden_eq m c t _ ?_ y) _ ?_ y ha hd)
  · intro y a k ha hk
    refine row_blk m c t _ ?_ ?_
    · exact (ValueKit.rect_emb_unit_val _ _ _ _ _).trans (by simpa using ha)
    · exact (ValueKit.rect_emb_unit_val _ _ _ _ _).trans (by simpa using hk)
  · intro y a ha
    have h1 : (y 1 : ℕ) < 1 := (y 1).isLt
    refine row_blk m c t _ ?_ ?_
    · exact (ValueKit.rect_emb_unit_val _ _ _ _ _).trans (by simpa using ha)
    · exact (ValueKit.rect_emb_unit_val _ _ _ _ _).trans (by simp)

theorem outs_idle (h : ¬cond0_0 (grid0.coords t) (tbM0_1.view.readAt (Elt Ideal) (Rect.unit (s := S1) ![0] S1.size inb_S1_S1_0).toLoadRect (tbl m 1) (Shape.Idx.first (numel1_S1.symm ▸ Nat.one_pos))))
    (y : S256x1024.Idx) : outsAt0 m (ok m) c t y = 0 := by
  rw [outsAt0_B m (ok m) c t h]
  frame_out
  pointwise [k0_pay1]

/-- A point is active if its block is among those that hold rows. -/
theorem active_iff : cond0_0 (grid0.coords t) (tbM0_1.view.readAt (Elt Ideal) (Rect.unit (s := S1) ![0] S1.size inb_S1_S1_0).toLoadRect (tbl m 1) (Shape.Idx.first (numel1_S1.symm ▸ Nat.one_pos)))
    ↔ (BitVec.ofNat 32 t.val).slt (usedOf (counts m 0) Idealize.ShloMosaic.ix0) := by
  have h : tbM0_1.view.readAt (Elt Ideal) (Rect.unit (s := S1) ![0] S1.size inb_S1_S1_0).toLoadRect (tbl m 1) (Shape.Idx.first (numel1_S1.symm ▸ Nat.one_pos))
      = usedOf (counts m 0) Idealize.ShloMosaic.ix0 := by
    refine (congrFun (V_used m 0) _).trans ?_
    unfold broadcastInDim
    congr 1
    funext b
    exact b.elim0
  rw [h]
  unfold cond0_0
  rw [coord_eq]
  generalize (BitVec.ofNat 32 t.val) = x
  generalize usedOf (counts m 0) Idealize.ShloMosaic.ix0 = y
  unfold Scalar.cmpi Scalar.extui IntOp.cmpi
  cases hb : x.slt y <;> simp [hb]
  all_goals trace_state

/-- A point's expert, if the point is active, is its block's own. -/
theorem expertOf_eq (h : (BitVec.ofNat 32 t.val).slt (usedOf (counts m 0) Idealize.ShloMosaic.ix0)) :
    expertOf m t = (own (counts m 0) (ix1 (grid0.coords t 0))).toNat := by
  unfold expertOf
  rw [expertAt_eq]
  unfold held
  pointwise
  rw [coord_eq]
  unfold Scalar.select IntOp.cmpi
  simp [h]

/-- What a point writes to the result's block. -/
theorem outs_eq (y : S256x1024.Idx) {p d : ℕ} (hp : p < 23552) (hy0 : 256 * t.val + (y 0 : ℕ) = p) (hy1 : (y 1 : ℕ) = d) :
    outsAt0 m (ok m) c t y = Experts.result (rows m c) (gates m c) (ups m c) (downs m c) (usedOf (counts m 0) Idealize.ShloMosaic.ix0) (own (counts m 0))
      p d hp := by
  subst hy0 hy1
  have h0 : (y 0 : ℕ) < 256 := (y 0).isLt
  have ht : (256 * t.val + (y 0 : ℕ)) / 256 = t.val := by omega
  unfold Experts.result
  have hi : (ix1 (⟨(256 * t.val + (y 0 : ℕ)) / 256, by omega⟩ : Fin 92) : S92.Idx) = ix1 (grid0.coords t 0) :=
    congrArg ix1 (Fin.ext (ht.trans (coord_eq m t).symm))
  rw [hi, ht]
  by_cases h : (BitVec.ofNat 32 t.val).slt (usedOf (counts m 0) Idealize.ShloMosaic.ix0)
  · rw [if_pos h, outs_active m c t ((active_iff m t).mpr h) y rfl rfl, expertOf_eq m t h]
    rfl
  · rw [if_neg h, outs_idle m c t (fun h' => h ((active_iff m t).mp h')) y]

/-- The blocks that the points write back tile the result. -/
theorem covers : ((cfgM m (ok m)).win 4).Covers := by
  refine ⟨fun a => ?_, fun β => ?_⟩
  · fin_cases a
    · exact (by decide : 0 < 256)
    · exact (by decide : 0 < 1024)
  · have h0 : (β (0 : Fin 2)).val < 92 := Nat.lt_of_lt_of_eq (β (0 : Fin 2)).isLt (by decide : (23552 + 256 - 1) / 256 = 92)
    have h1 : (β (1 : Fin 2)).val < 1 := Nat.lt_of_lt_of_eq (β (1 : Fin 2)).isLt (by decide : (1024 + 1024 - 1) / 1024 = 1)
    refine ⟨(⟨(β (0 : Fin 2)).val, h0⟩ : Fin 92),
      (by decide +kernel : ∀ t : Fin grid0.N, Pipeline.Window.flushOf grid0 true cc0_transform_4 t = true) _, fun a => ⟨?_, .inl rfl⟩⟩
    refine (congrFun (idx_out m _) a).trans ?_
    revert a
    exact Fin.forall_fin_two.mpr ⟨rfl, (Nat.lt_one_iff.mp h1).symm⟩

variable (ρ : Dev nD → PrngReg)

/-- The kernel's array after the run: the blocks that the points write back tile it. -/
theorem final_eq : (dats m (ok m) 0 c).arrAt 4 (cfgM m (ok m)).N
    = fun i : S23552x1024.Idx => Experts.result (rows m c) (gates m c) (ups m c) (downs m c) (usedOf (counts m 0) Idealize.ShloMosaic.ix0)
        (own (counts m 0)) (i 0 : ℕ) (i 1 : ℕ) (i 0).isLt := by
  refine (dats m (ok m) 0 c).arrAt_eq_of_covers 4 _ (covers m) fun t _ y => ?_
  blk_simp
  rw [after0_4]
  refine outs_eq m c t y _ ?_ ?_
  all_goals rw [idx_out m t]
  all_goals blk_simp
  all_goals omega

/-- The run: the result's array, and the arguments unchanged. -/
theorem run : θ_run defs (onTc (τ := τ) (main (F := Ideal))) ⟨m, fun _ => 0, ρ⟩ (fun r => ∀ c : Dev nD,
      r.2.mem ((c.tc : Thread nD τ).loc main_v41) = (fun i : S23552x1024.Idx => Experts.result (rows m c) (gates m c) (ups m c) (downs m c)
        (usedOf (counts m c) Idealize.ShloMosaic.ix0) (own (counts m c)) (i 0 : ℕ) (i 1 : ℕ) (i 0).isLt)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun _ h c => ?_) (θ_run_and (run_main m ρ (ok m)) (unchanged m ρ (ok m)))
  obtain rfl : c = 0 := Subsingleton.elim _ _
  exact ⟨((h.1 0).1 4).trans (final_eq m 0), h.2 0⟩

end Cert.LowerIdeal.Val

end
-- ==== Proof.LowerReference.lean ====
/-
The first experts' reference: every expert of every row, of which each row's own is kept, times the row's weight.
-/
module

public import proofs.«01_k».proof.Proof.Gen.LowerReferenceIdeal.Run
public import proofs.«01_k».proof.Proof.LowerPlan
public import proofs.«01_k».proof.Proof.Experts
public import Idealize.ShloMosaic.Lib.Pointwise

@[expose] public section

set_option maxRecDepth 16384

noncomputable section

namespace Cert.LowerReferenceIdeal.Val

open Idealize.ShloMosaic Idealize.ShloMosaic.TcCoe Idealize.SL.Sem
open Cert.LowerReferenceIdeal Cert.LowerReferenceIdeal.Gen

/-- A table read at a class: the class is clamped to the table. -/
theorem gather_eq (x : IVec S24 32) (cls : IVec S92 32) (y : S92.Idx) :
    Host.gather gather_S24_S92x1_S92_n_0_n_n_0_1_1 x (broadcastInDim S92x1 ![0] bcast_S92_S92x1_0 cls) y
      = x (ix1 ⟨min (cls y).toInt.toNat 23, by omega⟩) := by
  unfold Host.gather
  congr 1
  funext a
  obtain rfl : a = 0 := Subsingleton.elim _ _
  refine Fin.ext ?_
  show (gather_S24_S92x1_S92_n_0_n_n_0_1_1).start y _ 0 + (gather_S24_S92x1_S92_n_0_n_n_0_1_1).batchCoord y 0
    + (gather_S24_S92x1_S92_n_0_n_n_0_1_1).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather_S24_S92x1_S92_n_0_n_n_0_1_1).startIndexMap from List.mem_singleton.mpr rfl)]
  show min (cls _).toInt.toNat 23 = _
  congr 3
  congr 1
  funext b
  obtain rfl : b = 0 := Subsingleton.elim _ _
  rfl

variable (X : Experts.Rows.Idx → EReal) (W Wg Wu Wd : Experts.Weights.Idx → EReal)

/-- A row's product with an expert's weights. -/
theorem product_eq (i : S16x23552x1024.Idx) :
    (transpose S16x23552x1024 [0, 2, 1] (Host.dotGeneral (F := Ideal) (φ₁ := .f32) (φ₂ := .f32) dot_S16x1024x1024_S23552x1024_S16x1024x23552_1_1_02_0_n_n none (shapeCast _ (extractStridedSlice S1x16x1024x1024 ![0, 0, 0, 0] W slices_S4x16x1024x1024_S1x16x1024x1024_0_0_0_0) shapeCasts_S1x16x1024x1024_S16x1024x1024) (extractStridedSlice S23552x1024 ![0, 0] X slices_S23552x1152_S23552x1024_0_0)) transposes_S16x1024x23552_S16x23552x1024_0_2_1) i
      = Experts.product X W (i 1 : ℕ) (i 0 : ℕ) (i 2 : ℕ) := by
  idx_vars i
  pointwise
  unfold Experts.product
  refine Finset.sum_congr rfl fun k _ => ?_
  rw [mul_comm]
  congr 1
  · exact Experts.rowAt_eq _ rfl rfl
  · refine Experts.weightAt_eq _ ?_ ?_ ?_ ?_
    all_goals rfl

/-- A row's hidden channel in an expert. -/
theorem hidden_eq (g u : FVec Ideal S16x23552x1024 .f32) (hg : ∀ i, g i = Experts.product X Wg (i 1 : ℕ) (i 0 : ℕ) (i 2 : ℕ))
    (hu : ∀ i, u i = Experts.product X Wu (i 1 : ℕ) (i 0 : ℕ) (i 2 : ℕ)) (i : S16x23552x1024.Idx) :
    (mulf (mulf g (Host.divf (broadcastInDim S16x23552x1024 ![] bcast_S_S16x23552x1024 (constant S_ .f32 0x3F800000#32)) (addf (broadcastInDim S16x23552x1024 ![] bcast_S_S16x23552x1024 (constant S_ .f32 0x3F800000#32)) (Host.exp (Host.negf g))))) u) i
      = Experts.hidden X Wg Wu (i 1 : ℕ) (i 0 : ℕ) (i 2 : ℕ) := by
  pointwise
  rw [hg, hu]
  rfl

/-- A row's channel out of an expert. -/
theorem expert_eq (h : FVec Ideal S16x23552x1024 .f32) (hh : ∀ i, h i = Experts.hidden X Wg Wu (i 1 : ℕ) (i 0 : ℕ) (i 2 : ℕ)) (i : S16x23552x1024.Idx) :
    (Host.dotGeneral (F := Ideal) (φ₁ := .f32) (φ₂ := .f32) dot_S16x23552x1024_S16x1024x1024_S16x23552x1024_2_1_1_2_0_0 none h (shapeCast _ (extractStridedSlice S1x16x1024x1024 ![0, 0, 0, 0] Wd slices_S4x16x1024x1024_S1x16x1024x1024_0_0_0_0) shapeCasts_S1x16x1024x1024_S16x1024x1024)) i
      = Experts.expert X Wg Wu Wd (i 1 : ℕ) (i 0 : ℕ) (i 2 : ℕ) := by
  idx_vars i
  pointwise
  unfold Experts.expert
  refine Finset.sum_congr rfl fun k _ => ?_
  rw [hh]
  congr 1
  refine Experts.weightAt_eq _ ?_ ?_ ?_ ?_
  all_goals rfl

/-- The result's array. -/
theorem kept_eq (y : FVec Ideal S16x23552x1024 .f32) (hy : ∀ i, y i = Experts.expert X Wg Wu Wd (i 1 : ℕ) (i 0 : ℕ) (i 2 : ℕ))
    (u : IVec S_ 32) (ex : IVec S92 32) (hex : ∀ i, (ex i).toNat < 16) (i : S23552x1024.Idx) :
    (select (broadcastInDim S23552x1024 ![0, 1] bcast_S23552x1_S23552x1024_0_1 (broadcastInDim S23552x1 ![0] bcast_S23552_S23552x1_0 (shapeCast _ (broadcastInDim S92x256 ![0] bcast_S92_S92x256_0 (cmpi .slt (iotaInDim S92 32 0) (broadcastInDim S92 ![] bcast_S_S92 u))) shapeCasts_S92x256_S23552))) (mulf (Host.reduceAdd (select (broadcastInDim S16x23552x1024 ![0, 1, 2] bcast_S16x23552x1_S16x23552x1024_0_1_2 (broadcastInDim S16x23552x1 ![0, 1] bcast_S16x23552_S16x23552x1_0_1 (cmpi .eq (broadcastInDim S16x23552 ![0, 1] bcast_S1x23552_S16x23552_0_1 (broadcastInDim S1x23552 ![1] bcast_S23552_S1x23552_1 (shapeCast _ (broadcastInDim S92x256 ![0] bcast_S92_S92x256_0 ex) shapeCasts_S92x256_S23552))) (broadcastInDim S16x23552 ![0, 1] bcast_S16x1_S16x23552_0_1 (broadcastInDim S16x1 ![0] bcast_S16_S16x1_0 (iotaInDim S16 32 0)))))) y (broadcastInDim S16x23552x1024 ![] bcast_S_S16x23552x1024 (id (constant S_ .f32 0x00000000#32)))) (constant S_ .f32 0x00000000#32) reducesTo_S16x23552x1024_S23552x1024_d0 h_S_) (broadcastInDim S23552x1024 ![0, 1] bcast_S23552x1_S23552x1024_0_1 (broadcastInDim S23552x1 ![0] bcast_S23552_S23552x1_0 (shapeCast _ (extractStridedSlice S23552x1 ![0, 1024] X slices_S23552x1152_S23552x1_0_1024) shapeCasts_S23552x1_S23552)))) (broadcastInDim S23552x1024 ![] bcast_S_S23552x1024 (id (constant S_ .f32 0x00000000#32))) : FVec Ideal S23552x1024 .f32) i
      = Experts.result X Wg Wu Wd (u Idealize.ShloMosaic.ix0) ex (i 0 : ℕ) (i 1 : ℕ) (i 0).isLt := by
  idx_vars i
  pointwise [id]
  have hs : ∀ (p : Prop) [Decidable p] (b : Bool) (a c : EReal), (b = true ↔ p) → Scalar.select (BitVec.ofBool b) a c = if p then a else c := by
    intro p _ b a c h
    unfold Scalar.select
    cases b <;> simp_all
  have hsum : (∑ x : Fin 16, Scalar.select (IntOp.cmpi CmpIPredicate.eq (ex (ix1 ⟨i0.val / 256, by omega⟩)) (BitVec.ofNat 32 x.val)) (y (ix3 x i0 i1)) 0)
      = Experts.expert X Wg Wu Wd i0.val (ex (ix1 ⟨i0.val / 256, by omega⟩)).toNat i1.val := by
    generalize hb : ex (ix1 ⟨i0.val / 256, by omega⟩) = b
    have hlt : b.toNat < 16 := hb ▸ hex _
    rw [Finset.sum_eq_single (⟨b.toNat, hlt⟩ : Fin 16)]
    · refine (hs (b = BitVec.ofNat 32 b.toNat) _ _ _ (by simp)).trans ((if_pos (by simp)).trans ?_)
      exact hy _
    · intro x _ hx
      refine (hs (b = BitVec.ofNat 32 x.val) _ _ _ (by simp)).trans (if_neg fun h => hx (Fin.ext ?_))
      have hx16 := x.isLt
      have := congrArg BitVec.toNat h
      simp only [BitVec.toNat_ofNat] at this
      show x.val = b.toNat
      omega
    · exact fun h => absurd (Finset.mem_univ _) h
  refine (hs ((BitVec.ofNat 32 (i0.val / 256)).slt (u Idealize.ShloMosaic.ix0) = true) _ _ _ Iff.rfl).trans ?_
  unfold Experts.result
  refine if_congr Iff.rfl ?_ rfl
  refine congrArg₂ (· * ·) hsum ?_
  exact Experts.rowAt_eq _ rfl rfl

variable (m : (ℓ : Loc nD τ sig) → Buf (Elt Ideal) ℓ) (c : Dev nD)

/-- The result's array after the run. -/
theorem final_eq : Value.res_out0 m c = fun i : S23552x1024.Idx =>
    Experts.result (m ((c.tc : Thread nD τ).loc main_arg0)) (m ((c.tc : Thread nD τ).loc main_arg2)) (m ((c.tc : Thread nD τ).loc main_arg3))
      (m ((c.tc : Thread nD τ).loc main_arg4)) (LowerIdeal.Plan.usedOf (m ((c.tc : Thread nD τ).loc main_arg1)) Idealize.ShloMosaic.ix0)
      (LowerIdeal.Plan.own (m ((c.tc : Thread nD τ).loc main_arg1))) (i 0 : ℕ) (i 1 : ℕ) (i 0).isLt := by
  funext i
  have hown : Host.gather gather_S24_S92x1_S92_n_0_n_n_0_1_1 LowerIdeal.Plan.lower
      (broadcastInDim S92x1 ![0] bcast_S92_S92x1_0 (LowerIdeal.Plan.classOf (m ((c.tc : Thread nD τ).loc main_arg1))))
      = LowerIdeal.Plan.own (m ((c.tc : Thread nD τ).loc main_arg1)) := by
    funext y
    rw [gather_eq, LowerIdeal.Plan.own_class]
  have hlt : ∀ y, (Host.gather gather_S24_S92x1_S92_n_0_n_n_0_1_1 LowerIdeal.Plan.lower
      (broadcastInDim S92x1 ![0] bcast_S92_S92x1_0 (LowerIdeal.Plan.classOf (m ((c.tc : Thread nD τ).loc main_arg1)))) y).toNat < 16 := by
    intro y
    rw [hown]
    exact LowerIdeal.Plan.own_lt _ y
  rw [← hown]
  exact kept_eq _ _ _ _ _ (expert_eq _ _ _ _ _ (hidden_eq _ _ _ _ _ (product_eq _ _) (product_eq _ _))) _ _ hlt i

/-- The reference has no semaphore. -/
theorem no_semaphore : IsEmpty (SemLoc sig) := by
  constructor
  intro s
  cases s with
  | _ x => exact x.elim0

/-- The reference terminates, leaves its arguments as they were, and leaves every semaphore counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run defs _ _).mono (fun _ h => ⟨fun c => (h c).2, funext fun g => (no_semaphore.false g.2).elim⟩) (Value.run m ρ)

end Cert.LowerReferenceIdeal.Val

end
-- ==== Proof.Finite.lean ====
/-
  What the precondition says: the queries, keys and values are real numbers.
-/
module

public import proofs.«01_k».proof.Defs
public import proofs.«01_k».proof.Proof.Tokens
public import Idealize.ShloMosaic.Lib.Pointwise

@[expose] public section

noncomputable section

namespace Cert.Retention

open Idealize.ShloMosaic

theorem finite_facts : Cert.Pre_finite.Facts where
  slices_S4x4352x6144_S4x4352x4096_0_0_0 := by decide
  bcast_S_S4x4352x4096 := by decide

theorem ofBits_inf : Ideal.ofBits .bf16 0x7F80#16 = (⊤ : EReal) := by
  simp [Ideal.ofBits, Ideal.ieee]

/-- Where the precondition holds, every query, key and value is a real number. -/
theorem realTokens [Cert.Pre_finite.Facts] (X : FVec Ideal Cert.Pre_finite.S4x4352x6144 .bf16)
    (L : FVec Ideal Cert.Pre_finite.S2x4 .f32) (h : Cert.Pre_finite.fn X L = fun _ => 1#1) : RealTokens X := by
  intro j hj
  idx_vars j
  have hj : j2.val < 4096 := hj
  have hlt := congrFun h (ix3 j0 j1 ⟨j2.val, hj⟩)
  revert hlt
  unfold Cert.Pre_finite.fn
  pointwise
  rw [ofBits_inf]
  intro hlt
  have habs : max (X (ix3 j0 j1 j2) : EReal) (-(X (ix3 j0 j1 j2) : EReal)) < ⊤ := by
    by_contra hn
    have hd : decide (max (X (ix3 j0 j1 j2) : EReal) (-(X (ix3 j0 j1 j2) : EReal)) < ⊤) = false := decide_eq_false hn
    exact absurd ((congrArg BitVec.ofBool hd).symm.trans hlt) (by decide)
  rw [max_lt_iff] at habs
  refine ⟨habs.1.ne, fun hb => ?_⟩
  rw [hb] at habs
  exact absurd habs.2 (by simp)

end Cert.Retention

end
-- ==== Proof.lean ====
/-
The claims: every program ends with its counters at zero and its arguments unchanged; over the ideal numbers the retention's two
results equal its reference's whenever the tokens' queries, keys and values are finite, and the results of the two
projections and of the first experts equal their references' for any arguments.
-/
module

public import proofs.«01_k».proof.Defs
public import proofs.«01_k».proof.Proof.Gen.Kernel.Frame
public import proofs.«01_k».proof.Proof.Gen.KernelIdeal.Frame
public import proofs.«01_k».proof.Proof.Gen.Projection.Frame
public import proofs.«01_k».proof.Proof.Gen.ProjectionIdeal.Frame
public import proofs.«01_k».proof.Proof.Gen.Neighbourhood.Frame
public import proofs.«01_k».proof.Proof.Gen.NeighbourhoodIdeal.Frame
public import proofs.«01_k».proof.Proof.Gen.Lower.Frame
public import proofs.«01_k».proof.Proof.Gen.LowerIdeal.Frame
public import proofs.«01_k».proof.Proof.Gen.LowerReferenceIdeal.Run
public import proofs.«01_k».proof.Proof.KernelFinal
public import proofs.«01_k».proof.Proof.ReferenceValue
public import proofs.«01_k».proof.Proof.ProjectionFinal
public import proofs.«01_k».proof.Proof.ProjectionReference
public import proofs.«01_k».proof.Proof.NeighbourhoodValue
public import proofs.«01_k».proof.Proof.NeighbourhoodReference
public import proofs.«01_k».proof.Proof.LowerValue
public import proofs.«01_k».proof.Proof.LowerReference
public import proofs.«01_k».proof.Proof.Finite
public import Idealize.ShloMosaic.Adequacy
public import Idealize.ShloMosaic.Init

@[expose] public section

noncomputable section

namespace Cert.Proof

open Idealize.ShloMosaic Idealize.SL.Sem Cert.Retention

attribute [local instance] finite_facts

/-- The kernel's two results equal the reference's: each is the retention recurrence's outputs. -/
theorem results_agree : Cert.algebraic_KernelIdeal_ReferenceIdeal_pre_finite (hKernelIdeal := Cert.KernelIdeal.Gen.facts)
    (hReferenceIdeal := Cert.ReferenceIdeal.Gen.facts) (hPre_finite := finite_facts) := by
  intro m g m' g' hpre hargs
  have hX : ∀ c, RealTokens (Cert.KernelIdeal.Val.tokens m c) := fun c => realTokens _ _ (hpre c)
  refine ⟨fun c => Cert.KernelIdeal.Val.resultArr (Cert.KernelIdeal.Val.tokens m c) (Cert.KernelIdeal.Val.logits m c) 0,
    fun c => Cert.KernelIdeal.Val.resultArr (Cert.KernelIdeal.Val.tokens m c) (Cert.KernelIdeal.Val.logits m c) 1, ?_, ?_⟩
  · exact (θ_run _ _ _).mono (fun r h c => ⟨(h c).1.trans (Cert.KernelIdeal.Val.final_fwd (hX c)),
      (h c).2.1.trans (Cert.KernelIdeal.Val.final_bwd (hX c)), (h c).2.2⟩) (Cert.KernelIdeal.Value.run_blocks m g)
  · refine (θ_run _ _ _).mono (fun r h c => ?_) (Cert.ReferenceIdeal.Val.run_states m' g')
    obtain ⟨h0, h1, hrest⟩ := h c
    unfold Cert.ReferenceIdeal.Val.statesOf at h0 h1
    rw [(hargs c).1, (hargs c).2] at h0 h1
    exact ⟨h0.trans (Cert.ReferenceIdeal.Val.result_fwd (hX c)), h1.trans (Cert.ReferenceIdeal.Val.result_bwd (hX c)), hrest⟩

/-- The projection's result equals its reference's: each is the product with the weights, the queries and keys turned. -/
theorem projections_agree : Cert.algebraic_ProjectionIdeal_ProjectionReferenceIdeal
    (hProjectionIdeal := Cert.ProjectionIdeal.Gen.facts) (hProjectionReferenceIdeal := Cert.ProjectionReferenceIdeal.Gen.facts) := by
  intro m g m' g' _ hargs
  refine ⟨fun c => fun i => Rotary.projected (Cert.ProjectionIdeal.Val.inputs m c) (Cert.ProjectionIdeal.Val.weights m c)
    (i 0 : ℕ) (i 1 : ℕ), ?_, ?_⟩
  · exact (θ_run _ _ _).mono (fun r h c => ⟨(h c).1.trans (Cert.ProjectionIdeal.Val.final_eq m c), (h c).2⟩)
      (Cert.ProjectionIdeal.Value.run_blocks m g)
  · refine (θ_run _ _ _).mono (fun r h c => ?_) (Cert.ProjectionReferenceIdeal.Value.run m' g')
    obtain ⟨h0, hrest⟩ := h c
    refine ⟨h0.trans ((Cert.ProjectionReferenceIdeal.Val.final_eq _).trans ?_), hrest⟩
    have hH : Cert.ProjectionReferenceIdeal.Val.inputs (StableHlo.launchContents m' c)
        = Cert.ProjectionIdeal.Val.inputs m c := (hargs c).1
    have hW : Cert.ProjectionReferenceIdeal.Val.weights (StableHlo.launchContents m' c)
        = Cert.ProjectionIdeal.Val.weights m c := (hargs c).2
    rw [hH, hW]
    rfl

/-- The neighbourhood projection's result equals its reference's: each is the product with the weights. -/
theorem neighbourhoods_agree : Cert.algebraic_NeighbourhoodIdeal_NeighbourhoodReferenceIdeal
    (hNeighbourhoodIdeal := Cert.NeighbourhoodIdeal.Gen.facts)
    (hNeighbourhoodReferenceIdeal := Cert.NeighbourhoodReferenceIdeal.Gen.facts) := by
  intro m g m' g' _ hargs
  refine ⟨fun c => fun i => Rotary.product (Cert.NeighbourhoodIdeal.Val.inputs m c) (Cert.NeighbourhoodIdeal.Val.weights m c)
    (i 0 : ℕ) (i 1 : ℕ), ?_, ?_⟩
  · exact (θ_run _ _ _).mono (fun r h c => ⟨(h c).1.trans (Cert.NeighbourhoodIdeal.Val.final_eq m c), (h c).2⟩)
      (Cert.NeighbourhoodIdeal.Value.run_blocks m g)
  · refine (θ_run _ _ _).mono (fun r h c => ?_) (Cert.NeighbourhoodReferenceIdeal.Value.run m' g')
    obtain ⟨h0, hrest⟩ := h c
    rw [(hargs c).1, (hargs c).2] at h0
    exact ⟨h0.trans (Cert.NeighbourhoodReferenceIdeal.Val.final_eq _ _), hrest⟩

/-- The first experts' result equals its reference's: each is the rows' products with their own experts, times their weights. -/
theorem experts_agree : Cert.algebraic_LowerIdeal_LowerReferenceIdeal (hLowerIdeal := Cert.LowerIdeal.Gen.facts)
    (hLowerReferenceIdeal := Cert.LowerReferenceIdeal.Gen.facts) := by
  intro m g m' g' _ hargs
  refine ⟨fun c => fun i => Experts.result (Cert.LowerIdeal.Val.rows m c) (Cert.LowerIdeal.Val.gates m c) (Cert.LowerIdeal.Val.ups m c)
    (Cert.LowerIdeal.Val.downs m c) (Cert.LowerIdeal.Plan.usedOf (Cert.LowerIdeal.Plan.counts m c) Idealize.ShloMosaic.ix0)
    (Cert.LowerIdeal.Plan.own (Cert.LowerIdeal.Plan.counts m c)) (i 0 : ℕ) (i 1 : ℕ) (i 0).isLt, ?_, ?_⟩
  · exact Cert.LowerIdeal.Val.run m g
  · refine (θ_run _ _ _).mono (fun r h c => ?_) (Cert.LowerReferenceIdeal.Value.run m' g')
    obtain ⟨h0, hrest⟩ := h c
    refine ⟨h0.trans ((Cert.LowerReferenceIdeal.Val.final_eq m' c).trans ?_), hrest⟩
    obtain ⟨a0, a1, a2, a3, a4⟩ := hargs c
    rw [a0, a1, a2, a3, a4]
    rfl

/-- The first experts' program over the machine's numbers: its tables, which hold integers, name experts that there are. -/
theorem experts_frame : Cert.quiescent_Lower (hLower := Cert.Lower.Gen.facts) :=
  fun m g _ => Cert.Lower.Gen.frame m g (Cert.LowerIdeal.Plan.ok (F := Bits) m)

theorem claim : Cert.Claim :=
  ⟨Cert.Kernel.Gen.facts, Cert.KernelIdeal.Gen.facts, Cert.ReferenceIdeal.Gen.facts, Cert.Projection.Gen.facts,
    Cert.ProjectionIdeal.Gen.facts, Cert.ProjectionReferenceIdeal.Gen.facts, Cert.Neighbourhood.Gen.facts,
    Cert.NeighbourhoodIdeal.Gen.facts, Cert.NeighbourhoodReferenceIdeal.Gen.facts,
    Cert.Lower.Gen.facts, Cert.LowerIdeal.Gen.facts, Cert.LowerReferenceIdeal.Gen.facts, finite_facts,
    fun m g _ => Cert.Kernel.Gen.frame m g, fun m g _ => Cert.KernelIdeal.Gen.frame m g, fun m g _ => Cert.KernelIdeal.Gen.frame m g,
    fun m g _ => Cert.ReferenceIdeal.Val.frame m g, fun m g _ => Cert.ReferenceIdeal.Val.frame m g,
    fun m g _ => Cert.Projection.Gen.frame m g, fun m g _ => Cert.ProjectionIdeal.Gen.frame m g,
    fun m g _ => Cert.ProjectionReferenceIdeal.Val.frame m g,
    fun m g _ => Cert.Neighbourhood.Gen.frame m g, fun m g _ => Cert.NeighbourhoodIdeal.Gen.frame m g,
    fun m g _ => Cert.NeighbourhoodReferenceIdeal.Val.frame m g,
    experts_frame,
    fun m g _ => Cert.LowerIdeal.Gen.frame m g (Cert.LowerIdeal.Plan.ok m),
    fun m g _ => Cert.LowerReferenceIdeal.Val.frame m g, trivial, results_agree, trivial, projections_agree, trivial,
    neighbourhoods_agree, trivial, experts_agree⟩

end Cert.Proof

end
